-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_scores [hPre_usable_scores : Cert.Pre_usable_scores.Facts] (m : (ℓ : Loc Cert.KernelIdeal.nD Cert.KernelIdeal.τ Cert.KernelIdeal.sig) → Buf (Elt Ideal) ℓ) : Prop :=
  ∀ c : Dev Cert.KernelIdeal.nD,
    (Cert.Pre_usable_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_usable_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_usable_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_scores [hPre_usable_scores : Cert.Pre_usable_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_usable_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_usable_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable_scores [hKernelIdeal : Cert.KernelIdeal.Facts] [hPre_usable_scores : Cert.Pre_usable_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usable_scores [hReferenceIdeal : Cert.ReferenceIdeal.Facts] [hPre_usable_scores : Cert.Pre_usable_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_usable_scores [hKernelIdeal : Cert.KernelIdeal.Facts] [hReferenceIdeal : Cert.ReferenceIdeal.Facts] [hPre_usable_scores : Cert.Pre_usable_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_usable_scores : Cert.Pre_usable_scores.Facts),
    quiescent_Kernel (hKernel := hKernel)
    ∧ quiescent_KernelIdeal (hKernelIdeal := hKernelIdeal)
    ∧ quiescent_KernelIdeal_pre_usable_scores (hKernelIdeal := hKernelIdeal) (hPre_usable_scores := hPre_usable_scores)
    ∧ quiescent_ReferenceIdeal (hReferenceIdeal := hReferenceIdeal)
    ∧ quiescent_ReferenceIdeal_pre_usable_scores (hReferenceIdeal := hReferenceIdeal) (hPre_usable_scores := hPre_usable_scores)
    ∧ preserves_Kernel_KernelIdeal
    ∧ algebraic_KernelIdeal_ReferenceIdeal_pre_usable_scores (hKernelIdeal := hKernelIdeal) (hReferenceIdeal := hReferenceIdeal) (hPre_usable_scores := hPre_usable_scores)
-- ==== Pre_usable_scores.lean ====
abbrev S512x1x100000 : Shape := ⟨3, ![512, 1, 100000]⟩
abbrev S64x8 : Shape := ⟨2, ![64, 8]⟩
abbrev S50x64x8 : Shape := ⟨3, ![50, 64, 8]⟩
abbrev S_ : Shape := ⟨0, ![]⟩

class Facts : Prop where
  bcast_S_S512x1x100000 : S_.BroadcastsInDim S512x1x100000 (![] : Fin 0 → Fin S512x1x100000.rank)
  bcast_S_S64x8 : S_.BroadcastsInDim S64x8 (![] : Fin 0 → Fin S64x8.rank)

variable [Facts]

def fn {F : FTy → Type} [FloatOps F] (main_arg0 : FVec F S512x1x100000 .f32) (main_arg1 : FVec F S64x8 .f32) (main_arg2 : IVec S50x64x8 32) (main_arg3 : IVec S64x8 1) : IVec S512x1x100000 1 × IVec S64x8 1 × IVec S64x8 1 :=
  let main_cst : FVec F S_ .f32 := constant S_ .f32 0xFF800000#32
  let main_v0 : FVec F S512x1x100000 .f32 := broadcastInDim S512x1x100000 ![] bcast_S_S512x1x100000 main_cst
  let main_v1 : IVec S512x1x100000 1 := cmpf .ogt main_arg0 main_v0
  let main_cst_0 : FVec F S_ .f32 := constant S_ .f32 0xFF800000#32
  let main_v2 : FVec F S64x8 .f32 := broadcastInDim S64x8 ![] bcast_S_S64x8 main_cst_0
  let main_v3 : IVec S64x8 1 := cmpf .ogt main_arg1 main_v2
  let main_cst_1 : FVec F S_ .f32 := constant S_ .f32 0x7F800000#32
  let main_v4 : FVec F S64x8 .f32 := broadcastInDim S64x8 ![] bcast_S_S64x8 main_cst_1
  let main_v5 : IVec S64x8 1 := cmpf .olt main_arg1 main_v4
  (main_v1, main_v3, main_v5)
-- ==== Kernel.lean ====
abbrev S512x1x100000 : Shape := ⟨3, ![512, 1, 100000]⟩
abbrev S64x8 : Shape := ⟨2, ![64, 8]⟩
abbrev S50x64x8 : Shape := ⟨3, ![50, 64, 8]⟩
abbrev S512x100000 : Shape := ⟨2, ![512, 100000]⟩
abbrev S64x8x1 : Shape := ⟨3, ![64, 8, 1]⟩
abbrev S64x50x8 : Shape := ⟨3, ![64, 50, 8]⟩
abbrev S64x1x8 : Shape := ⟨3, ![64, 1, 8]⟩
abbrev S64x51x8 : Shape := ⟨3, ![64, 51, 8]⟩
abbrev S32x100000 : Shape := ⟨2, ![32, 100000]⟩
abbrev S4x8x1 : Shape := ⟨3, ![4, 8, 1]⟩
abbrev S4x50x8 : Shape := ⟨3, ![4, 50, 8]⟩
abbrev S4x1x8 : Shape := ⟨3, ![4, 1, 8]⟩
abbrev S4x51x8 : Shape := ⟨3, ![4, 51, 8]⟩
abbrev S8x3200 : Shape := ⟨2, ![8, 3200]⟩
abbrev S1x8x1 : Shape := ⟨3, ![1, 8, 1]⟩
abbrev S8x1 : Shape := ⟨2, ![8, 1]⟩
abbrev S8x128 : Shape := ⟨2, ![8, 128]⟩
abbrev S8x32 : Shape := ⟨2, ![8, 32]⟩
abbrev S8x96 : Shape := ⟨2, ![8, 96]⟩
abbrev S8x4096 : Shape := ⟨2, ![8, 4096]⟩
abbrev S8x1696 : Shape := ⟨2, ![8, 1696]⟩
abbrev S1x8 : Shape := ⟨2, ![1, 8]⟩
abbrev S1x8x3200 : Shape := ⟨3, ![1, 8, 3200]⟩
abbrev S1 : Shape := ⟨1, ![1]⟩
abbrev S1x1x1 : Shape := ⟨3, ![1, 1, 1]⟩
abbrev S1x1 : Shape := ⟨2, ![1, 1]⟩
abbrev S1x8x4096 : Shape := ⟨3, ![1, 8, 4096]⟩
abbrev S1x8x1696 : Shape := ⟨3, ![1, 8, 1696]⟩
abbrev S8x8 : Shape := ⟨2, ![8, 8]⟩
abbrev S1x50x8 : Shape := ⟨3, ![1, 50, 8]⟩
abbrev S50x8 : Shape := ⟨2, ![50, 8]⟩
abbrev S1x1x8 : Shape := ⟨3, ![1, 1, 8]⟩
abbrev S8 : Shape := ⟨1, ![8]⟩
abbrev S_ : Shape := ⟨0, ![]⟩
abbrev S51x64x8 : Shape := ⟨3, ![51, 64, 8]⟩
abbrev S512x1 : Shape := ⟨2, ![512, 1]⟩

abbrev nBuf : Space → Nat
  | .hbm => 23
  | .vmem => 26
  | .smem => 0
  | _ => 0

abbrev bufTy : (tb : Table) → Fin (tcTables nBuf tb) → BufTy
  | .hbm, ⟨0, _⟩ => ⟨S512x1x100000, .f32⟩
  | .hbm, ⟨1, _⟩ => ⟨S64x8, .f32⟩
  | .hbm, ⟨2, _⟩ => ⟨S50x64x8, .i32⟩
  | .hbm, ⟨3, _⟩ => ⟨S64x8, .i1⟩
  | .hbm, ⟨4, _⟩ => ⟨S512x100000, .f32⟩
  | .hbm, ⟨5, _⟩ => ⟨S64x8x1, .f32⟩
  | .hbm, ⟨6, _⟩ => ⟨S64x8, .f32⟩
  | .hbm, ⟨7, _⟩ => ⟨S64x8x1, .f32⟩
  | .hbm, ⟨8, _⟩ => ⟨S64x50x8, .i32⟩
  | .hbm, ⟨9, _⟩ => ⟨S64x1x8, .f32⟩
  | .hbm, ⟨10, _⟩ => ⟨S64x1x8, .i32⟩
  | .hbm, ⟨11, _⟩ => ⟨S64x1x8, .i32⟩
  | .hbm, ⟨12, _⟩ => ⟨S64x1x8, .f32⟩
  | .hbm, ⟨13, _⟩ => ⟨S64x51x8, .i32⟩
  | .hbm, ⟨14, _⟩ => ⟨S64x8, .f32⟩
  | .hbm, ⟨15, _⟩ => ⟨S64x8, .i32⟩
  | .hbm, ⟨16, _⟩ => ⟨S64x8, .i32⟩
  | .hbm, ⟨17, _⟩ => ⟨S64x8, .f32⟩
  | .hbm, ⟨18, _⟩ => ⟨S_, .f32⟩
  | .hbm, ⟨19, _⟩ => ⟨S64x8, .f32⟩
  | .hbm, ⟨20, _⟩ => ⟨S64x8, .i1⟩
  | .hbm, ⟨21, _⟩ => ⟨S51x64x8, .i32⟩
  | .hbm, ⟨22, _⟩ => ⟨S512x1, .i32⟩
  | .local _ .vmem, ⟨0, _⟩ => ⟨S32x100000, .f32⟩
  | .local _ .vmem, ⟨1, _⟩ => ⟨S32x100000, .f32⟩
  | .local _ .vmem, ⟨2, _⟩ => ⟨S4x8x1, .f32⟩
  | .local _ .vmem, ⟨3, _⟩ => ⟨S4x8x1, .f32⟩
  | .local _ .vmem, ⟨4, _⟩ => ⟨S4x8x1, .f32⟩
  | .local _ .vmem, ⟨5, _⟩ => ⟨S4x8x1, .f32⟩
  | .local _ .vmem, ⟨6, _⟩ => ⟨S4x50x8, .i32⟩
  | .local _ .vmem, ⟨7, _⟩ => ⟨S4x50x8, .i32⟩
  | .local _ .vmem, ⟨8, _⟩ => ⟨S4x1x8, .f32⟩
  | .local _ .vmem, ⟨9, _⟩ => ⟨S4x1x8, .f32⟩
  | .local _ .vmem, ⟨10, _⟩ => ⟨S4x1x8, .i32⟩
  | .local _ .vmem, ⟨11, _⟩ => ⟨S4x1x8, .i32⟩
  | .local _ .vmem, ⟨12, _⟩ => ⟨S4x1x8, .i32⟩
  | .local _ .vmem, ⟨13, _⟩ => ⟨S4x1x8, .i32⟩
  | .local _ .vmem, ⟨14, _⟩ => ⟨S4x1x8, .f32⟩
  | .local _ .vmem, ⟨15, _⟩ => ⟨S4x1x8, .f32⟩
  | .local _ .vmem, ⟨16, _⟩ => ⟨S4x51x8, .i32⟩
  | .local _ .vmem, ⟨17, _⟩ => ⟨S4x51x8, .i32⟩
  | .local _ .vmem, ⟨18, _⟩ => ⟨S8x3200, .f32⟩
  | .local _ .vmem, ⟨19, _⟩ => ⟨S8x3200, .f32⟩
  | .local _ .vmem, ⟨20, _⟩ => ⟨S8x3200, .f32⟩
  | .local _ .vmem, ⟨21, _⟩ => ⟨S8x3200, .f32⟩
  | .local _ .vmem, ⟨22, _⟩ => ⟨S8x3200, .i32⟩
  | .local _ .vmem, ⟨23, _⟩ => ⟨S8x3200, .i32⟩
  | .local _ .vmem, ⟨24, _⟩ => ⟨S8x3200, .i32⟩
  | .local _ .vmem, ⟨25, _⟩ => ⟨S8x3200, .i32⟩
  | _, _ => ⟨S512x1x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def k0_off1 (v19581 : BitVec 32) : Fin 2 → Nat :=
  let c0_9267 : Index := 0#32
  let c23_i32_9175 : BitVec 32 := 23#32
  let v19582 : BitVec 32 := Scalar.minsi v19581 c23_i32_9175
  let c4096_i32_9176 : BitVec 32 := 4096#32
  let v19583 : BitVec 32 := Scalar.muli v19582 c4096_i32_9176
  let v19856 : Index := Scalar.indexCast v19583
  ![0, v19856.toNat]

def k0_chk1 (v19581 : BitVec 32) : Prop :=
  (∀ a, (k0_off1 v19581) a + S8x4096.size a ≤ S32x100000.size a)
theorem k0_off1_inb : ∀ (v19581 : BitVec 32) (k0_hw1 : k0_chk1 v19581), ∀ a, (k0_off1 v19581) a + S8x4096.size a ≤ S32x100000.size a := fun v19581 k0_hw1 => k0_hw1

def k0_off2 (v19671 : BitVec 32) : Fin 2 → Nat :=
  let c8_9273 : Index := 8#32
  let c23_i32_9205 : BitVec 32 := 23#32
  let v19672 : BitVec 32 := Scalar.minsi v19671 c23_i32_9205
  let c4096_i32_9206 : BitVec 32 := 4096#32
  let v19673 : BitVec 32 := Scalar.muli v19672 c4096_i32_9206
  let v19904 : Index := Scalar.indexCast v19673
  ![8, v19904.toNat]

def k0_chk2 (v19671 : BitVec 32) : Prop :=
  (∀ a, (k0_off2 v19671) a + S8x4096.size a ≤ S32x100000.size a)
theorem k0_off2_inb : ∀ (v19671 : BitVec 32) (k0_hw2 : k0_chk2 v19671), ∀ a, (k0_off2 v19671) a + S8x4096.size a ≤ S32x100000.size a := fun v19671 k0_hw2 => k0_hw2

def k0_off3 (v19761 : BitVec 32) : Fin 2 → Nat :=
  let c16_9280 : Index := 16#32
  let c23_i32_9235 : BitVec 32 := 23#32
  let v19762 : BitVec 32 := Scalar.minsi v19761 c23_i32_9235
  let c4096_i32_9236 : BitVec 32 := 4096#32
  let v19763 : BitVec 32 := Scalar.muli v19762 c4096_i32_9236
  let v19952 : Index := Scalar.indexCast v19763
  ![16, v19952.toNat]

def k0_chk3 (v19761 : BitVec 32) : Prop :=
  (∀ a, (k0_off3 v19761) a + S8x4096.size a ≤ S32x100000.size a)
theorem k0_off3_inb : ∀ (v19761 : BitVec 32) (k0_hw3 : k0_chk3 v19761), ∀ a, (k0_off3 v19761) a + S8x4096.size a ≤ S32x100000.size a := fun v19761 k0_hw3 => k0_hw3

def k0_off4 (v19851 : BitVec 32) : Fin 2 → Nat :=
  let c24_9287 : Index := 24#32
  let c23_i32_9265 : BitVec 32 := 23#32
  let v19852 : BitVec 32 := Scalar.minsi v19851 c23_i32_9265
  let c4096_i32_9266 : BitVec 32 := 4096#32
  let v19853 : BitVec 32 := Scalar.muli v19852 c4096_i32_9266
  let v20000 : Index := Scalar.indexCast v19853
  ![24, v20000.toNat]

def k0_chk4 (v19851 : BitVec 32) : Prop :=
  (∀ a, (k0_off4 v19851) a + S8x4096.size a ≤ S32x100000.size a)
theorem k0_off4_inb : ∀ (v19851 : BitVec 32) (k0_hw4 : k0_chk4 v19851), ∀ a, (k0_off4 v19851) a + S8x4096.size a ≤ S32x100000.size a := fun v19851 k0_hw4 => k0_hw4

def k0_off5 (v20445 : BitVec 32) : Fin 2 → Nat :=
  let c0_9498 : Index := 0#32
  let c23_i32_9406 : BitVec 32 := 23#32
  let v20446 : BitVec 32 := Scalar.minsi v20445 c23_i32_9406
  let c4096_i32_9407 : BitVec 32 := 4096#32
  let v20447 : BitVec 32 := Scalar.muli v20446 c4096_i32_9407
  let v20720 : Index := Scalar.indexCast v20447
  ![0, v20720.toNat]

def k0_chk5 (v20445 : BitVec 32) : Prop :=
  (∀ a, (k0_off5 v20445) a + S8x4096.size a ≤ S32x100000.size a)
theorem k0_off5_inb : ∀ (v20445 : BitVec 32) (k0_hw5 : k0_chk5 v20445), ∀ a, (k0_off5 v20445) a + S8x4096.size a ≤ S32x100000.size a := fun v20445 k0_hw5 => k0_hw5

def k0_off6 (v20535 : BitVec 32) : Fin 2 → Nat :=
  let c8_9505 : Index := 8#32
  let c23_i32_9436 : BitVec 32 := 23#32
  let v20536 : BitVec 32 := Scalar.minsi v20535 c23_i32_9436
  let c4096_i32_9437 : BitVec 32 := 4096#32
  let v20537 : BitVec 32 := Scalar.muli v20536 c4096_i32_9437
  let v20768 : Index := Scalar.indexCast v20537
  ![8, v20768.toNat]

def k0_chk6 (v20535 : BitVec 32) : Prop :=
  (∀ a, (k0_off6 v20535) a + S8x4096.size a ≤ S32x100000.size a)
theorem k0_off6_inb : ∀ (v20535 : BitVec 32) (k0_hw6 : k0_chk6 v20535), ∀ a, (k0_off6 v20535) a + S8x4096.size a ≤ S32x100000.size a := fun v20535 k0_hw6 => k0_hw6

def k0_off7 (v20625 : BitVec 32) : Fin 2 → Nat :=
  let c16_9512 : Index := 16#32
  let c23_i32_9466 : BitVec 32 := 23#32
  let v20626 : BitVec 32 := Scalar.minsi v20625 c23_i32_9466
  let c4096_i32_9467 : BitVec 32 := 4096#32
  let v20627 : BitVec 32 := Scalar.muli v20626 c4096_i32_9467
  let v20816 : Index := Scalar.indexCast v20627
  ![16, v20816.toNat]

def k0_chk7 (v20625 : BitVec 32) : Prop :=
  (∀ a, (k0_off7 v20625) a + S8x4096.size a ≤ S32x100000.size a)
theorem k0_off7_inb : ∀ (v20625 : BitVec 32) (k0_hw7 : k0_chk7 v20625), ∀ a, (k0_off7 v20625) a + S8x4096.size a ≤ S32x100000.size a := fun v20625 k0_hw7 => k0_hw7

def k0_off8 (v20715 : BitVec 32) : Fin 2 → Nat :=
  let c24_9519 : Index := 24#32
  let c23_i32_9496 : BitVec 32 := 23#32
  let v20716 : BitVec 32 := Scalar.minsi v20715 c23_i32_9496
  let c4096_i32_9497 : BitVec 32 := 4096#32
  let v20717 : BitVec 32 := Scalar.muli v20716 c4096_i32_9497
  let v20864 : Index := Scalar.indexCast v20717
  ![24, v20864.toNat]

def k0_chk8 (v20715 : BitVec 32) : Prop :=
  (∀ a, (k0_off8 v20715) a + S8x4096.size a ≤ S32x100000.size a)
theorem k0_off8_inb : ∀ (v20715 : BitVec 32) (k0_hw8 : k0_chk8 v20715), ∀ a, (k0_off8 v20715) a + S8x4096.size a ≤ S32x100000.size a := fun v20715 k0_hw8 => k0_hw8

def k0_off9 (v21309 : BitVec 32) : Fin 2 → Nat :=
  let c0_9730 : Index := 0#32
  let c23_i32_9638 : BitVec 32 := 23#32
  let v21310 : BitVec 32 := Scalar.minsi v21309 c23_i32_9638
  let c4096_i32_9639 : BitVec 32 := 4096#32
  let v21311 : BitVec 32 := Scalar.muli v21310 c4096_i32_9639
  let v21584 : Index := Scalar.indexCast v21311
  ![0, v21584.toNat]

def k0_chk9 (v21309 : BitVec 32) : Prop :=
  (∀ a, (k0_off9 v21309) a + S8x4096.size a ≤ S32x100000.size a)
theorem k0_off9_inb : ∀ (v21309 : BitVec 32) (k0_hw9 : k0_chk9 v21309), ∀ a, (k0_off9 v21309) a + S8x4096.size a ≤ S32x100000.size a := fun v21309 k0_hw9 => k0_hw9

def k0_off10 (v21399 : BitVec 32) : Fin 2 → Nat :=
  let c8_9737 : Index := 8#32
  let c23_i32_9668 : BitVec 32 := 23#32
  let v21400 : BitVec 32 := Scalar.minsi v21399 c23_i32_9668
  let c4096_i32_9669 : BitVec 32 := 4096#32
  let v21401 : BitVec 32 := Scalar.muli v21400 c4096_i32_9669
  let v21632 : Index := Scalar.indexCast v21401
  ![8, v21632.toNat]

def k0_chk10 (v21399 : BitVec 32) : Prop :=
  (∀ a, (k0_off10 v21399) a + S8x4096.size a ≤ S32x100000.size a)
theorem k0_off10_inb : ∀ (v21399 : BitVec 32) (k0_hw10 : k0_chk10 v21399), ∀ a, (k0_off10 v21399) a + S8x4096.size a ≤ S32x100000.size a := fun v21399 k0_hw10 => k0_hw10

def k0_off11 (v21489 : BitVec 32) : Fin 2 → Nat :=
  let c16_9744 : Index := 16#32
  let c23_i32_9698 : BitVec 32 := 23#32
  let v21490 : BitVec 32 := Scalar.minsi v21489 c23_i32_9698
  let c4096_i32_9699 : BitVec 32 := 4096#32
  let v21491 : BitVec 32 := Scalar.muli v21490 c4096_i32_9699
  let v21680 : Index := Scalar.indexCast v21491
  ![16, v21680.toNat]

def k0_chk11 (v21489 : BitVec 32) : Prop :=
  (∀ a, (k0_off11 v21489) a + S8x4096.size a ≤ S32x100000.size a)
theorem k0_off11_inb : ∀ (v21489 : BitVec 32) (k0_hw11 : k0_chk11 v21489), ∀ a, (k0_off11 v21489) a + S8x4096.size a ≤ S32x100000.size a := fun v21489 k0_hw11 => k0_hw11

def k0_off12 (v21579 : BitVec 32) : Fin 2 → Nat :=
  let c24_9751 : Index := 24#32
  let c23_i32_9728 : BitVec 32 := 23#32
  let v21580 : BitVec 32 := Scalar.minsi v21579 c23_i32_9728
  let c4096_i32_9729 : BitVec 32 := 4096#32
  let v21581 : BitVec 32 := Scalar.muli v21580 c4096_i32_9729
  let v21728 : Index := Scalar.indexCast v21581
  ![24, v21728.toNat]

def k0_chk12 (v21579 : BitVec 32) : Prop :=
  (∀ a, (k0_off12 v21579) a + S8x4096.size a ≤ S32x100000.size a)
theorem k0_off12_inb : ∀ (v21579 : BitVec 32) (k0_hw12 : k0_chk12 v21579), ∀ a, (k0_off12 v21579) a + S8x4096.size a ≤ S32x100000.size a := fun v21579 k0_hw12 => k0_hw12

def k0_off13 (v22173 : BitVec 32) : Fin 2 → Nat :=
  let c0_9962 : Index := 0#32
  let c23_i32_9870 : BitVec 32 := 23#32
  let v22174 : BitVec 32 := Scalar.minsi v22173 c23_i32_9870
  let c4096_i32_9871 : BitVec 32 := 4096#32
  let v22175 : BitVec 32 := Scalar.muli v22174 c4096_i32_9871
  let v22448 : Index := Scalar.indexCast v22175
  ![0, v22448.toNat]

def k0_chk13 (v22173 : BitVec 32) : Prop :=
  (∀ a, (k0_off13 v22173) a + S8x4096.size a ≤ S32x100000.size a)
theorem k0_off13_inb : ∀ (v22173 : BitVec 32) (k0_hw13 : k0_chk13 v22173), ∀ a, (k0_off13 v22173) a + S8x4096.size a ≤ S32x100000.size a := fun v22173 k0_hw13 => k0_hw13

def k0_off14 (v22263 : BitVec 32) : Fin 2 → Nat :=
  let c8_9969 : Index := 8#32
  let c23_i32_9900 : BitVec 32 := 23#32
  let v22264 : BitVec 32 := Scalar.minsi v22263 c23_i32_9900
  let c4096_i32_9901 : BitVec 32 := 4096#32
  let v22265 : BitVec 32 := Scalar.muli v22264 c4096_i32_9901
  let v22496 : Index := Scalar.indexCast v22265
  ![8, v22496.toNat]

def k0_chk14 (v22263 : BitVec 32) : Prop :=
  (∀ a, (k0_off14 v22263) a + S8x4096.size a ≤ S32x100000.size a)
theorem k0_off14_inb : ∀ (v22263 : BitVec 32) (k0_hw14 : k0_chk14 v22263), ∀ a, (k0_off14 v22263) a + S8x4096.size a ≤ S32x100000.size a := fun v22263 k0_hw14 => k0_hw14

def k0_off15 (v22353 : BitVec 32) : Fin 2 → Nat :=
  let c16_9976 : Index := 16#32
  let c23_i32_9930 : BitVec 32 := 23#32
  let v22354 : BitVec 32 := Scalar.minsi v22353 c23_i32_9930
  let c4096_i32_9931 : BitVec 32 := 4096#32
  let v22355 : BitVec 32 := Scalar.muli v22354 c4096_i32_9931
  let v22544 : Index := Scalar.indexCast v22355
  ![16, v22544.toNat]

def k0_chk15 (v22353 : BitVec 32) : Prop :=
  (∀ a, (k0_off15 v22353) a + S8x4096.size a ≤ S32x100000.size a)
theorem k0_off15_inb : ∀ (v22353 : BitVec 32) (k0_hw15 : k0_chk15 v22353), ∀ a, (k0_off15 v22353) a + S8x4096.size a ≤ S32x100000.size a := fun v22353 k0_hw15 => k0_hw15

def k0_off16 (v22443 : BitVec 32) : Fin 2 → Nat :=
  let c24_9983 : Index := 24#32
  let c23_i32_9960 : BitVec 32 := 23#32
  let v22444 : BitVec 32 := Scalar.minsi v22443 c23_i32_9960
  let c4096_i32_9961 : BitVec 32 := 4096#32
  let v22445 : BitVec 32 := Scalar.muli v22444 c4096_i32_9961
  let v22592 : Index := Scalar.indexCast v22445
  ![24, v22592.toNat]

def k0_chk16 (v22443 : BitVec 32) : Prop :=
  (∀ a, (k0_off16 v22443) a + S8x4096.size a ≤ S32x100000.size a)
theorem k0_off16_inb : ∀ (v22443 : BitVec 32) (k0_hw16 : k0_chk16 v22443), ∀ a, (k0_off16 v22443) a + S8x4096.size a ≤ S32x100000.size a := fun v22443 k0_hw16 => k0_hw16

def k0_off17 (v23037 : BitVec 32) : Fin 2 → Nat :=
  let c0_10194 : Index := 0#32
  let c23_i32_10102 : BitVec 32 := 23#32
  let v23038 : BitVec 32 := Scalar.minsi v23037 c23_i32_10102
  let c4096_i32_10103 : BitVec 32 := 4096#32
  let v23039 : BitVec 32 := Scalar.muli v23038 c4096_i32_10103
  let v23312 : Index := Scalar.indexCast v23039
  ![0, v23312.toNat]

def k0_chk17 (v23037 : BitVec 32) : Prop :=
  (∀ a, (k0_off17 v23037) a + S8x4096.size a ≤ S32x100000.size a)
theorem k0_off17_inb : ∀ (v23037 : BitVec 32) (k0_hw17 : k0_chk17 v23037), ∀ a, (k0_off17 v23037) a + S8x4096.size a ≤ S32x100000.size a := fun v23037 k0_hw17 => k0_hw17

def k0_off18 (v23127 : BitVec 32) : Fin 2 → Nat :=
  let c8_10201 : Index := 8#32
  let c23_i32_10132 : BitVec 32 := 23#32
  let v23128 : BitVec 32 := Scalar.minsi v23127 c23_i32_10132
  let c4096_i32_10133 : BitVec 32 := 4096#32
  let v23129 : BitVec 32 := Scalar.muli v23128 c4096_i32_10133
  let v23360 : Index := Scalar.indexCast v23129
  ![8, v23360.toNat]

def k0_chk18 (v23127 : BitVec 32) : Prop :=
  (∀ a, (k0_off18 v23127) a + S8x4096.size a ≤ S32x100000.size a)
theorem k0_off18_inb : ∀ (v23127 : BitVec 32) (k0_hw18 : k0_chk18 v23127), ∀ a, (k0_off18 v23127) a + S8x4096.size a ≤ S32x100000.size a := fun v23127 k0_hw18 => k0_hw18

def k0_off19 (v23217 : BitVec 32) : Fin 2 → Nat :=
  let c16_10208 : Index := 16#32
  let c23_i32_10162 : BitVec 32 := 23#32
  let v23218 : BitVec 32 := Scalar.minsi v23217 c23_i32_10162
  let c4096_i32_10163 : BitVec 32 := 4096#32
  let v23219 : BitVec 32 := Scalar.muli v23218 c4096_i32_10163
  let v23408 : Index := Scalar.indexCast v23219
  ![16, v23408.toNat]

def k0_chk19 (v23217 : BitVec 32) : Prop :=
  (∀ a, (k0_off19 v23217) a + S8x4096.size a ≤ S32x100000.size a)
theorem k0_off19_inb : ∀ (v23217 : BitVec 32) (k0_hw19 : k0_chk19 v23217), ∀ a, (k0_off19 v23217) a + S8x4096.size a ≤ S32x100000.size a := fun v23217 k0_hw19 => k0_hw19

def k0_off20 (v23307 : BitVec 32) : Fin 2 → Nat :=
  let c24_10215 : Index := 24#32
  let c23_i32_10192 : BitVec 32 := 23#32
  let v23308 : BitVec 32 := Scalar.minsi v23307 c23_i32_10192
  let c4096_i32_10193 : BitVec 32 := 4096#32
  let v23309 : BitVec 32 := Scalar.muli v23308 c4096_i32_10193
  let v23456 : Index := Scalar.indexCast v23309
  ![24, v23456.toNat]

def k0_chk20 (v23307 : BitVec 32) : Prop :=
  (∀ a, (k0_off20 v23307) a + S8x4096.size a ≤ S32x100000.size a)
theorem k0_off20_inb : ∀ (v23307 : BitVec 32) (k0_hw20 : k0_chk20 v23307), ∀ a, (k0_off20 v23307) a + S8x4096.size a ≤ S32x100000.size a := fun v23307 k0_hw20 => k0_hw20

def k0_off21 (v23901 : BitVec 32) : Fin 2 → Nat :=
  let c0_10426 : Index := 0#32
  let c23_i32_10334 : BitVec 32 := 23#32
  let v23902 : BitVec 32 := Scalar.minsi v23901 c23_i32_10334
  let c4096_i32_10335 : BitVec 32 := 4096#32
  let v23903 : BitVec 32 := Scalar.muli v23902 c4096_i32_10335
  let v24176 : Index := Scalar.indexCast v23903
  ![0, v24176.toNat]

def k0_chk21 (v23901 : BitVec 32) : Prop :=
  (∀ a, (k0_off21 v23901) a + S8x4096.size a ≤ S32x100000.size a)
theorem k0_off21_inb : ∀ (v23901 : BitVec 32) (k0_hw21 : k0_chk21 v23901), ∀ a, (k0_off21 v23901) a + S8x4096.size a ≤ S32x100000.size a := fun v23901 k0_hw21 => k0_hw21

def k0_off22 (v23991 : BitVec 32) : Fin 2 → Nat :=
  let c8_10433 : Index := 8#32
  let c23_i32_10364 : BitVec 32 := 23#32
  let v23992 : BitVec 32 := Scalar.minsi v23991 c23_i32_10364
  let c4096_i32_10365 : BitVec 32 := 4096#32
  let v23993 : BitVec 32 := Scalar.muli v23992 c4096_i32_10365
  let v24224 : Index := Scalar.indexCast v23993
  ![8, v24224.toNat]

def k0_chk22 (v23991 : BitVec 32) : Prop :=
  (∀ a, (k0_off22 v23991) a + S8x4096.size a ≤ S32x100000.size a)
theorem k0_off22_inb : ∀ (v23991 : BitVec 32) (k0_hw22 : k0_chk22 v23991), ∀ a, (k0_off22 v23991) a + S8x4096.size a ≤ S32x100000.size a := fun v23991 k0_hw22 => k0_hw22

def k0_off23 (v24081 : BitVec 32) : Fin 2 → Nat :=
  let c16_10440 : Index := 16#32
  let c23_i32_10394 : BitVec 32 := 23#32
  let v24082 : BitVec 32 := Scalar.minsi v24081 c23_i32_10394
  let c4096_i32_10395 : BitVec 32 := 4096#32
  let v24083 : BitVec 32 := Scalar.muli v24082 c4096_i32_10395
  let v24272 : Index := Scalar.indexCast v24083
  ![16, v24272.toNat]

def k0_chk23 (v24081 : BitVec 32) : Prop :=
  (∀ a, (k0_off23 v24081) a + S8x4096.size a ≤ S32x100000.size a)
theorem k0_off23_inb : ∀ (v24081 : BitVec 32) (k0_hw23 : k0_chk23 v24081), ∀ a, (k0_off23 v24081) a + S8x4096.size a ≤ S32x100000.size a := fun v24081 k0_hw23 => k0_hw23

def k0_off24 (v24171 : BitVec 32) : Fin 2 → Nat :=
  let c24_10447 : Index := 24#32
  let c23_i32_10424 : BitVec 32 := 23#32
  let v24172 : BitVec 32 := Scalar.minsi v24171 c23_i32_10424
  let c4096_i32_10425 : BitVec 32 := 4096#32
  let v24173 : BitVec 32 := Scalar.muli v24172 c4096_i32_10425
  let v24320 : Index := Scalar.indexCast v24173
  ![24, v24320.toNat]

def k0_chk24 (v24171 : BitVec 32) : Prop :=
  (∀ a, (k0_off24 v24171) a + S8x4096.size a ≤ S32x100000.size a)
theorem k0_off24_inb : ∀ (v24171 : BitVec 32) (k0_hw24 : k0_chk24 v24171), ∀ a, (k0_off24 v24171) a + S8x4096.size a ≤ S32x100000.size a := fun v24171 k0_hw24 => k0_hw24

def k0_off25 (v24765 : BitVec 32) : Fin 2 → Nat :=
  let c0_10658 : Index := 0#32
  let c23_i32_10566 : BitVec 32 := 23#32
  let v24766 : BitVec 32 := Scalar.minsi v24765 c23_i32_10566
  let c4096_i32_10567 : BitVec 32 := 4096#32
  let v24767 : BitVec 32 := Scalar.muli v24766 c4096_i32_10567
  let v25040 : Index := Scalar.indexCast v24767
  ![0, v25040.toNat]

def k0_chk25 (v24765 : BitVec 32) : Prop :=
  (∀ a, (k0_off25 v24765) a + S8x4096.size a ≤ S32x100000.size a)
theorem k0_off25_inb : ∀ (v24765 : BitVec 32) (k0_hw25 : k0_chk25 v24765), ∀ a, (k0_off25 v24765) a + S8x4096.size a ≤ S32x100000.size a := fun v24765 k0_hw25 => k0_hw25

def k0_off26 (v24855 : BitVec 32) : Fin 2 → Nat :=
  let c8_10665 : Index := 8#32
  let c23_i32_10596 : BitVec 32 := 23#32
  let v24856 : BitVec 32 := Scalar.minsi v24855 c23_i32_10596
  let c4096_i32_10597 : BitVec 32 := 4096#32
  let v24857 : BitVec 32 := Scalar.muli v24856 c4096_i32_10597
  let v25088 : Index := Scalar.indexCast v24857
  ![8, v25088.toNat]

def k0_chk26 (v24855 : BitVec 32) : Prop :=
  (∀ a, (k0_off26 v24855) a + S8x4096.size a ≤ S32x100000.size a)
theorem k0_off26_inb : ∀ (v24855 : BitVec 32) (k0_hw26 : k0_chk26 v24855), ∀ a, (k0_off26 v24855) a + S8x4096.size a ≤ S32x100000.size a := fun v24855 k0_hw26 => k0_hw26

def k0_off27 (v24945 : BitVec 32) : Fin 2 → Nat :=
  let c16_10672 : Index := 16#32
  let c23_i32_10626 : BitVec 32 := 23#32
  let v24946 : BitVec 32 := Scalar.minsi v24945 c23_i32_10626
  let c4096_i32_10627 : BitVec 32 := 4096#32
  let v24947 : BitVec 32 := Scalar.muli v24946 c4096_i32_10627
  let v25136 : Index := Scalar.indexCast v24947
  ![16, v25136.toNat]

def k0_chk27 (v24945 : BitVec 32) : Prop :=
  (∀ a, (k0_off27 v24945) a + S8x4096.size a ≤ S32x100000.size a)
theorem k0_off27_inb : ∀ (v24945 : BitVec 32) (k0_hw27 : k0_chk27 v24945), ∀ a, (k0_off27 v24945) a + S8x4096.size a ≤ S32x100000.size a := fun v24945 k0_hw27 => k0_hw27

def k0_off28 (v25035 : BitVec 32) : Fin 2 → Nat :=
  let c24_10679 : Index := 24#32
  let c23_i32_10656 : BitVec 32 := 23#32
  let v25036 : BitVec 32 := Scalar.minsi v25035 c23_i32_10656
  let c4096_i32_10657 : BitVec 32 := 4096#32
  let v25037 : BitVec 32 := Scalar.muli v25036 c4096_i32_10657
  let v25184 : Index := Scalar.indexCast v25037
  ![24, v25184.toNat]

def k0_chk28 (v25035 : BitVec 32) : Prop :=
  (∀ a, (k0_off28 v25035) a + S8x4096.size a ≤ S32x100000.size a)
theorem k0_off28_inb : ∀ (v25035 : BitVec 32) (k0_hw28 : k0_chk28 v25035), ∀ a, (k0_off28 v25035) a + S8x4096.size a ≤ S32x100000.size a := fun v25035 k0_hw28 => k0_hw28

def k0_off29 (v25629 : BitVec 32) : Fin 2 → Nat :=
  let c0_10890 : Index := 0#32
  let c23_i32_10798 : BitVec 32 := 23#32
  let v25630 : BitVec 32 := Scalar.minsi v25629 c23_i32_10798
  let c4096_i32_10799 : BitVec 32 := 4096#32
  let v25631 : BitVec 32 := Scalar.muli v25630 c4096_i32_10799
  let v25904 : Index := Scalar.indexCast v25631
  ![0, v25904.toNat]

def k0_chk29 (v25629 : BitVec 32) : Prop :=
  (∀ a, (k0_off29 v25629) a + S8x4096.size a ≤ S32x100000.size a)
theorem k0_off29_inb : ∀ (v25629 : BitVec 32) (k0_hw29 : k0_chk29 v25629), ∀ a, (k0_off29 v25629) a + S8x4096.size a ≤ S32x100000.size a := fun v25629 k0_hw29 => k0_hw29

def k0_off30 (v25719 : BitVec 32) : Fin 2 → Nat :=
  let c8_10897 : Index := 8#32
  let c23_i32_10828 : BitVec 32 := 23#32
  let v25720 : BitVec 32 := Scalar.minsi v25719 c23_i32_10828
  let c4096_i32_10829 : BitVec 32 := 4096#32
  let v25721 : BitVec 32 := Scalar.muli v25720 c4096_i32_10829
  let v25952 : Index := Scalar.indexCast v25721
  ![8, v25952.toNat]

def k0_chk30 (v25719 : BitVec 32) : Prop :=
  (∀ a, (k0_off30 v25719) a + S8x4096.size a ≤ S32x100000.size a)
theorem k0_off30_inb : ∀ (v25719 : BitVec 32) (k0_hw30 : k0_chk30 v25719), ∀ a, (k0_off30 v25719) a + S8x4096.size a ≤ S32x100000.size a := fun v25719 k0_hw30 => k0_hw30

def k0_off31 (v25809 : BitVec 32) : Fin 2 → Nat :=
  let c16_10904 : Index := 16#32
  let c23_i32_10858 : BitVec 32 := 23#32
  let v25810 : BitVec 32 := Scalar.minsi v25809 c23_i32_10858
  let c4096_i32_10859 : BitVec 32 := 4096#32
  let v25811 : BitVec 32 := Scalar.muli v25810 c4096_i32_10859
  let v26000 : Index := Scalar.indexCast v25811
  ![16, v26000.toNat]

def k0_chk31 (v25809 : BitVec 32) : Prop :=
  (∀ a, (k0_off31 v25809) a + S8x4096.size a ≤ S32x100000.size a)
theorem k0_off31_inb : ∀ (v25809 : BitVec 32) (k0_hw31 : k0_chk31 v25809), ∀ a, (k0_off31 v25809) a + S8x4096.size a ≤ S32x100000.size a := fun v25809 k0_hw31 => k0_hw31

def k0_off32 (v25899 : BitVec 32) : Fin 2 → Nat :=
  let c24_10911 : Index := 24#32
  let c23_i32_10888 : BitVec 32 := 23#32
  let v25900 : BitVec 32 := Scalar.minsi v25899 c23_i32_10888
  let c4096_i32_10889 : BitVec 32 := 4096#32
  let v25901 : BitVec 32 := Scalar.muli v25900 c4096_i32_10889
  let v26048 : Index := Scalar.indexCast v25901
  ![24, v26048.toNat]

def k0_chk32 (v25899 : BitVec 32) : Prop :=
  (∀ a, (k0_off32 v25899) a + S8x4096.size a ≤ S32x100000.size a)
theorem k0_off32_inb : ∀ (v25899 : BitVec 32) (k0_hw32 : k0_chk32 v25899), ∀ a, (k0_off32 v25899) a + S8x4096.size a ≤ S32x100000.size a := fun v25899 k0_hw32 => k0_hw32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x50x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x51x8 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S512x1x100000 : Shape := ⟨3, ![512, 1, 100000]⟩
abbrev S64x8 : Shape := ⟨2, ![64, 8]⟩
abbrev S50x64x8 : Shape := ⟨3, ![50, 64, 8]⟩
abbrev S64x8x100000 : Shape := ⟨3, ![64, 8, 100000]⟩
abbrev S64x8x1 : Shape := ⟨3, ![64, 8, 1]⟩
abbrev S_ : Shape := ⟨0, ![]⟩
abbrev S1 : Shape := ⟨1, ![1]⟩
abbrev S64x800000 : Shape := ⟨2, ![64, 800000]⟩
abbrev S1x64x8 : Shape := ⟨3, ![1, 64, 8]⟩
abbrev S50x64x8x1 : Shape := ⟨4, ![50, 64, 8, 1]⟩
abbrev S1x1x1x1 : Shape := ⟨4, ![1, 1, 1, 1]⟩
abbrev S1x1x1 : Shape := ⟨3, ![1, 1, 1]⟩
abbrev S51x64x8 : Shape := ⟨3, ![51, 64, 8]⟩
abbrev S512x1 : Shape := ⟨2, ![512, 1]⟩

abbrev nBuf : Space → Nat
  | .hbm => 121
  | .vmem => 0
  | .smem => 0
  | _ => 0

abbrev bufTy : (tb : Table) → Fin (tcTables nBuf tb) → BufTy
  | .hbm, ⟨0, _⟩ => ⟨S512x1x100000, .f32⟩
  | .hbm, ⟨1, _⟩ => ⟨S64x8, .f32⟩
  | .hbm, ⟨2, _⟩ => ⟨S50x64x8, .i32⟩
  | .hbm, ⟨3, _⟩ => ⟨S64x8, .i1⟩
  | .hbm, ⟨4, _⟩ => ⟨S64x8x100000, .f32⟩
  | .hbm, ⟨5, _⟩ => ⟨S64x8x1, .i1⟩
  | .hbm, ⟨6, _⟩ => ⟨S_, .f32⟩
  | .hbm, ⟨7, _⟩ => ⟨S_, .f32⟩
  | .hbm, ⟨8, _⟩ => ⟨S64x8x100000, .i1⟩
  | .hbm, ⟨9, _⟩ => ⟨S64x8x100000, .f32⟩
  | .hbm, ⟨10, _⟩ => ⟨S64x8x100000, .f32⟩
  | .hbm, ⟨11, _⟩ => ⟨S64x8x1, .f32⟩
  | .hbm, ⟨12, _⟩ => ⟨S64x8, .f32⟩
  | .hbm, ⟨13, _⟩ => ⟨S_, .f32⟩
  | .hbm, ⟨14, _⟩ => ⟨S_, .f32⟩
  | .hbm, ⟨15, _⟩ => ⟨S64x8, .f32⟩
  | .hbm, ⟨16, _⟩ => ⟨S64x8, .f32⟩
  | .hbm, ⟨17, _⟩ => ⟨S_, .i32⟩
  | .hbm, ⟨18, _⟩ => ⟨S1, .i32⟩
  | .hbm, ⟨19, _⟩ => ⟨S64x8x100000, .f32⟩
  | .hbm, ⟨20, _⟩ => ⟨S64x8x1, .f32⟩
  | .hbm, ⟨21, _⟩ => ⟨S64x8x100000, .f32⟩
  | .hbm, ⟨22, _⟩ => ⟨S64x8x100000, .f32⟩
  | .hbm, ⟨23, _⟩ => ⟨S64x800000, .f32⟩
  | .hbm, ⟨24, _⟩ => ⟨S64x8, .f32⟩
  | .hbm, ⟨25, _⟩ => ⟨S64x8, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S64x8, .i32⟩
  | .hbm, ⟨33, _⟩ => ⟨S64x8, .i32⟩
  | .hbm, ⟨34, _⟩ => ⟨S_, .i32⟩
  | .hbm, ⟨35, _⟩ => ⟨S64x8, .i32⟩
  | .hbm, ⟨36, _⟩ => ⟨S64x8, .i1⟩
  | .hbm, ⟨37, _⟩ => ⟨S_, .i32⟩
  | .hbm, ⟨38, _⟩ => ⟨S64x8, .i32⟩
  | .hbm, ⟨39, _⟩ => ⟨S64x8, .i1⟩
  | .hbm, ⟨40, _⟩ => ⟨S_, .i32⟩
  | .hbm, ⟨41, _⟩ => ⟨S_, .i1⟩
  | .hbm, ⟨42, _⟩ => ⟨S64x8, .i1⟩
  | .hbm, ⟨43, _⟩ => ⟨S64x8, .i1⟩
  | .hbm, ⟨44, _⟩ => ⟨S64x8, .i1⟩
  | .hbm, ⟨45, _⟩ => ⟨S64x8, .i32⟩
  | .hbm, ⟨46, _⟩ => ⟨S64x8, .i32⟩
  | .hbm, ⟨47, _⟩ => ⟨S64x8, .i32⟩
  | .hbm, ⟨48, _⟩ => ⟨S_, .i32⟩
  | .hbm, ⟨49, _⟩ => ⟨S_, .i32⟩
  | .hbm, ⟨50, _⟩ => ⟨S64x8, .i32⟩
  | .hbm, ⟨51, _⟩ => ⟨S64x8, .i32⟩
  | .hbm, ⟨52, _⟩ => ⟨S64x8, .i32⟩
  | .hbm, ⟨53, _⟩ => ⟨S_, .i32⟩
  | .hbm, ⟨54, _⟩ => ⟨S64x8, .i32⟩
  | .hbm, ⟨55, _⟩ => ⟨S64x8, .i1⟩
  | .hbm, ⟨56, _⟩ => ⟨S64x8, .i32⟩
  | .hbm, ⟨57, _⟩ => ⟨S64x8, .i32⟩
  | .hbm, ⟨58, _⟩ => ⟨S_, .i32⟩
  | .hbm, ⟨59, _⟩ => ⟨S64x8, .i32⟩
  | .hbm, ⟨60, _⟩ => ⟨S64x8, .i1⟩
  | .hbm, ⟨61, _⟩ => ⟨S64x8, .i1⟩
  | .hbm, ⟨62, _⟩ => ⟨S_, .i32⟩
  | .hbm, ⟨63, _⟩ => ⟨S64x8, .i32⟩
  | .hbm, ⟨64, _⟩ => ⟨S64x8, .i32⟩
  | .hbm, ⟨65, _⟩ => ⟨S64x8, .i32⟩
  | .hbm, ⟨66, _⟩ => ⟨S1x64x8, .i32⟩
  | .hbm, ⟨67, _⟩ => ⟨S50x64x8, .i32⟩
  | .hbm, ⟨68, _⟩ => ⟨S_, .i32⟩
  | .hbm, ⟨69, _⟩ => ⟨S50x64x8, .i32⟩
  | .hbm, ⟨70, _⟩ => ⟨S50x64x8, .i1⟩
  | .hbm, ⟨71, _⟩ => ⟨S_, .i32⟩
  | .hbm, ⟨72, _⟩ => ⟨S50x64x8, .i32⟩
  | .hbm, ⟨73, _⟩ => ⟨S50x64x8, .i32⟩
  | .hbm, ⟨74, _⟩ => ⟨S50x64x8, .i32⟩
  | .hbm, ⟨75, _⟩ => ⟨S50x64x8x1, .i32⟩
  | .hbm, ⟨76, _⟩ => ⟨S1, .i32⟩
  | .hbm, ⟨77, _⟩ => ⟨S_, .i32⟩
  | .hbm, ⟨78, _⟩ => ⟨S50x64x8x1, .i32⟩
  | .hbm, ⟨79, _⟩ => ⟨S50x64x8x1, .i1⟩
  | .hbm, ⟨80, _⟩ => ⟨S1x1x1x1, .i32⟩
  | .hbm, ⟨81, _⟩ => ⟨S50x64x8x1, .i32⟩
  | .hbm, ⟨82, _⟩ => ⟨S50x64x8x1, .i1⟩
  | .hbm, ⟨83, _⟩ => ⟨S50x64x8x1, .i1⟩
  | .hbm, ⟨84, _⟩ => ⟨S_, .i1⟩
  | .hbm, ⟨85, _⟩ => ⟨S50x64x8, .i1⟩
  | .hbm, ⟨86, _⟩ => ⟨S50x64x8, .i32⟩
  | .hbm, ⟨87, _⟩ => ⟨S_, .i32⟩
  | .hbm, ⟨88, _⟩ => ⟨S50x64x8, .i32⟩
  | .hbm, ⟨89, _⟩ => ⟨S50x64x8, .i32⟩
  | .hbm, ⟨90, _⟩ => ⟨S_, .i32⟩
  | .hbm, ⟨91, _⟩ => ⟨S64x8, .i32⟩
  | .hbm, ⟨92, _⟩ => ⟨S64x8, .i1⟩
  | .hbm, ⟨93, _⟩ => ⟨S_, .i32⟩
  | .hbm, ⟨94, _⟩ => ⟨S64x8, .i32⟩
  | .hbm, ⟨95, _⟩ => ⟨S64x8, .i32⟩
  | .hbm, ⟨96, _⟩ => ⟨S64x8, .i32⟩
  | .hbm, ⟨97, _⟩ => ⟨S64x8x1, .i32⟩
  | .hbm, ⟨98, _⟩ => ⟨S1, .i32⟩
  | .hbm, ⟨99, _⟩ => ⟨S_, .i32⟩
  | .hbm, ⟨100, _⟩ => ⟨S64x8x1, .i32⟩
  | .hbm, ⟨101, _⟩ => ⟨S64x8x1, .i1⟩
  | .hbm, ⟨102, _⟩ => ⟨S1x1x1, .i32⟩
  | .hbm, ⟨103, _⟩ => ⟨S64x8x1, .i32⟩
  | .hbm, ⟨104, _⟩ => ⟨S64x8x1, .i1⟩
  | .hbm, ⟨105, _⟩ => ⟨S64x8x1, .i1⟩
  | .hbm, ⟨106, _⟩ => ⟨S_, .i1⟩
  | .hbm, ⟨107, _⟩ => ⟨S64x8, .i1⟩
  | .hbm, ⟨108, _⟩ => ⟨S64x8, .i1⟩
  | .hbm, ⟨109, _⟩ => ⟨S_, .i1⟩
  | .hbm, ⟨110, _⟩ => ⟨S64x8, .i1⟩
  | .hbm, ⟨111, _⟩ => ⟨S64x8, .i1⟩
  | .hbm, ⟨112, _⟩ => ⟨S1x64x8, .i32⟩
  | .hbm, ⟨113, _⟩ => ⟨S51x64x8, .i32⟩
  | .hbm, ⟨114, _⟩ => ⟨S_, .i32⟩
  | .hbm, ⟨115, _⟩ => ⟨S64x8, .i32⟩
  | .hbm, ⟨116, _⟩ => ⟨S64x8, .i1⟩
  | .hbm, ⟨117, _⟩ => ⟨S_, .i1⟩
  | .hbm, ⟨118, _⟩ => ⟨S64x8, .i1⟩
  | .hbm, ⟨119, _⟩ => ⟨S64x8, .i1⟩
  | .hbm, ⟨120, _⟩ => ⟨S512x1, .i32⟩
  | _, _ => ⟨S512x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_values : Ref sig .tc := ⟨.hbm, 24, rfl⟩
abbrev main_indices : Ref sig .tc := ⟨.hbm, 25, rfl⟩
abbrev main_c_1 : Ref sig .tc := ⟨.hbm, 26, rfl⟩
abbrev main_call2_v0 : Ref sig .tc := ⟨.hbm, 27, rfl⟩
abbrev main_call2_c : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_c_1 : Ref sig .tc := ⟨.hbm, 34, rfl⟩
abbrev main_call2_v5 : Ref sig .tc := ⟨.hbm, 35, rfl⟩
abbrev main_call2_v6 : Ref sig .tc := ⟨.hbm, 36, rfl⟩
abbrev main_call2_c_2 : Ref sig .tc := ⟨.hbm, 37, rfl⟩
abbrev main_call2_v7 : Ref sig .tc := ⟨.hbm, 38, rfl⟩
abbrev main_call2_v8 : Ref sig .tc := ⟨.hbm, 39, rfl⟩
abbrev main_call2_c_3 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_v12 : Ref sig .tc := ⟨.hbm, 47, rfl⟩
abbrev main_c_2 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_c : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_0 : Ref sig .tc := ⟨.hbm, 62, rfl⟩
abbrev main_call3_v12 : Ref sig .tc := ⟨.hbm, 63, rfl⟩
abbrev main_call3_v13 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_c_4 : Ref sig .tc := ⟨.hbm, 87, rfl⟩
abbrev main_call4_v14 : Ref sig .tc := ⟨.hbm, 88, rfl⟩
abbrev main_v16 : Ref sig .tc := ⟨.hbm, 89, rfl⟩
abbrev main_call5_c : Ref sig .tc := ⟨.hbm, 90, rfl⟩
abbrev main_call5_v0 : Ref sig .tc := ⟨.hbm, 91, rfl⟩
abbrev main_call5_v1 : Ref sig .tc := ⟨.hbm, 92, rfl⟩
abbrev main_call5_c_0 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_c_1 : Ref sig .tc := ⟨.hbm, 98, rfl⟩
abbrev main_call5_c_2 : Ref sig .tc := ⟨.hbm, 99, rfl⟩
abbrev main_call5_v6 : Ref sig .tc := ⟨.hbm, 100, rfl⟩
abbrev main_call5_v7 : Ref sig .tc := ⟨.hbm, 101, rfl⟩
abbrev main_call5_v8 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_c_3 : Ref sig .tc := ⟨.hbm, 106, rfl⟩
abbrev main_call5_v12 : Ref sig .tc := ⟨.hbm, 107, rfl⟩
abbrev main_call5_v13 : Ref sig .tc := ⟨.hbm, 108, rfl⟩
abbrev main_call5_c_4 : Ref sig .tc := ⟨.hbm, 109, rfl⟩
abbrev main_call5_v14 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_c_3 : Ref sig .tc := ⟨.hbm, 114, rfl⟩
abbrev main_v20 : Ref sig .tc := ⟨.hbm, 115, rfl⟩
abbrev main_v21 : Ref sig .tc := ⟨.hbm, 116, rfl⟩
abbrev main_c_4 : Ref sig .tc := ⟨.hbm, 117, rfl⟩
abbrev main_call6_v0 : Ref sig .tc := ⟨.hbm, 118, rfl⟩
abbrev main_v22 : Ref sig .tc := ⟨.hbm, 119, rfl⟩
abbrev main_v23 : Ref sig .tc := ⟨.hbm, 120, rfl⟩

abbrev nD : Nat := 1
abbrev τ : Topo := Topo.v7x

variable {F : FTy → Type} [FloatOps F]
-- ==== Proof.Words.lean ====
/-
  Word arithmetic: floor division and remainder of a signed 32-bit word by a positive constant as jnp lowers them (the
  truncated quotient and remainder, corrected when the signs differ), read as integers.
-/
module

public import Idealize.ShloMosaic.Lib.Tactic
public import Idealize.ShloMosaic.PureOps

@[expose] public section

noncomputable section

namespace Cert.Proof

open Idealize.ShloMosaic

/-- The word of a truth value (`arith.extui` from one bit). -/
def bitW (b : BitVec 1) : BitVec 32 := b.setWidth 32

/-- `x % c` on a lane of the vector unit, as lowered. -/
def fmodW (c x : BitVec 32) : BitVec 32 :=
  Scalar.select (IntOp.andi (IntOp.xori
      (IntOp.cmpi .slt (IntOp.remsi .vector x (Scalar.select (Scalar.cmpi .eq c 0#32) 1#32 c)) 0#32)
      (Scalar.cmpi .slt (Scalar.select (Scalar.cmpi .eq c 0#32) 1#32 c) 0#32))
      (IntOp.cmpi .ne (IntOp.remsi .vector x (Scalar.select (Scalar.cmpi .eq c 0#32) 1#32 c)) 0#32))
    (IntOp.addi (IntOp.remsi .vector x (Scalar.select (Scalar.cmpi .eq c 0#32) 1#32 c)) (Scalar.select (Scalar.cmpi .eq c 0#32) 1#32 c))
    (IntOp.remsi .vector x (Scalar.select (Scalar.cmpi .eq c 0#32) 1#32 c))

/-- `x // c` on a lane of the vector unit, as lowered. -/
def fdivW (c x : BitVec 32) : BitVec 32 :=
  Scalar.select (IntOp.andi
      (IntOp.cmpi .ne (IntOp.subi (bitW (IntOp.cmpi .sgt x 0#32)) (bitW (IntOp.cmpi .slt x 0#32)))
        (Scalar.subi (Scalar.extui (Scalar.cmpi .sgt c 0#32)) (Scalar.extui (Scalar.cmpi .slt c 0#32))))
      (IntOp.cmpi .ne (IntOp.remsi .vector x c) 0#32))
    (IntOp.subi (IntOp.divsi .vector x c) 1#32) (IntOp.divsi .vector x c)

/-- A bit is one when its test holds. -/
theorem ofBool_eq_one (b : Bool) : (BitVec.ofBool b = 1#1) ↔ b = true := by cases b <;> decide

/-- A select on the conjunction of two tests. -/
theorem select_and {α : Type} (a b : Bool) (x y : α) :
    Scalar.select (IntOp.andi (BitVec.ofBool a) (BitVec.ofBool b)) x y = if a = true ∧ b = true then x else y := by
  cases a <;> cases b <;> rfl

/-- A select on a test. -/
theorem select_ofBool {α : Type} (a : Bool) (x y : α) : Scalar.select (BitVec.ofBool a) x y = if a = true then x else y := by
  cases a <;> rfl

section
variable {c x : BitVec 32} (hc : 0 < c.toInt)
include hc

/-- A division by this divisor does not overflow. -/
theorem not_corner (y : BitVec 32) : ¬ IntOp.SDivCorner y c := by
  rintro (h | ⟨-, h⟩) <;> subst h <;> revert hc <;> decide

/-- The remainder as an integer. -/
theorem remsi_toInt (u : ArithUnit) : (IntOp.remsi u x c).toInt = x.toInt.tmod c.toInt := by
  unfold IntOp.remsi
  rw [if_neg (not_corner hc x), BitVec.toInt_srem]

/-- The quotient as an integer. -/
theorem divsi_toInt (u : ArithUnit) : (IntOp.divsi u x c).toInt = x.toInt.tdiv c.toInt := by
  unfold IntOp.divsi
  rw [if_neg (not_corner hc x), BitVec.toInt_sdiv_of_ne_or_ne]
  right
  rintro rfl
  revert hc; decide

/-- `x % c` is the remainder of the floor division. -/
theorem fmodW_toInt : (fmodW c x).toInt = x.toInt % c.toInt := by
  have hc0 : (Scalar.select (Scalar.cmpi .eq c 0#32) 1#32 c) = c := by
    have : c ≠ 0#32 := by rintro rfl; revert hc; decide
    unfold Scalar.cmpi IntOp.cmpi
    rw [select_ofBool, if_neg (by simpa using this)]
  have hslt : Scalar.cmpi .slt c 0#32 = 0#1 := by
    unfold Scalar.cmpi IntOp.cmpi
    have : c.slt 0#32 = false := by rw [BitVec.slt_eq_decide]; simp; omega
    simp only [this]; rfl
  unfold fmodW
  rw [hc0, hslt]
  have hr := remsi_toInt (x := x) hc .vector
  generalize IntOp.remsi .vector x c = r at hr
  have hx0 : IntOp.xori (IntOp.cmpi .slt r 0#32) 0#1 = BitVec.ofBool (r.slt 0#32) := by
    unfold IntOp.xori IntOp.cmpi; simp
  rw [hx0]
  show (Scalar.select (IntOp.andi (BitVec.ofBool (r.slt 0#32)) (BitVec.ofBool (r != 0#32))) (IntOp.addi r c) r).toInt = _
  rw [select_and]
  have e := Int.emod_def x.toInt c.toInt
  have t := Int.tmod_eq_emod (a := x.toInt) (b := c.toInt)
  have hb1 := Int.emod_nonneg x.toInt (show c.toInt ≠ 0 by omega)
  have hb2 := Int.emod_lt_of_pos x.toInt hc
  have hcl := BitVec.toInt_lt (x := c)
  have t' : x.toInt.tmod c.toInt = x.toInt % c.toInt ∨ x.toInt.tmod c.toInt = x.toInt % c.toInt - c.toInt := by
    rw [t]; split <;> omega
  have hslt' : r.slt 0#32 = true ↔ r.toInt < 0 := by rw [BitVec.slt_eq_decide]; simp
  have hne : (r != 0#32) = true ↔ r.toInt ≠ 0 := by
    rw [bne_iff_ne, ne_eq, ← BitVec.toInt_inj]; simp
  simp only [hslt', hne]
  have hneg : r.toInt < 0 → r.toInt = x.toInt % c.toInt - c.toInt := by
    intro h; omega
  have hpos : ¬ r.toInt < 0 → r.toInt = x.toInt % c.toInt := by
    intro h; omega
  split
  · rename_i h
    have := hneg h.1
    unfold IntOp.addi
    rw [BitVec.toInt_add, this]
    rw [show x.toInt % c.toInt - c.toInt + c.toInt = x.toInt % c.toInt by omega]
    apply Int.bmod_eq_of_le <;> simp at * <;> omega
  · rename_i h
    exact hpos (by omega)

/-- `x // c` is the floor quotient, on a lane that is not negative. -/
theorem fdivW_toInt (hx : 0 ≤ x.toInt) : (fdivW c x).toInt = x.toInt / c.toInt := by
  have hd := divsi_toInt (x := x) hc .vector
  have hr := remsi_toInt (x := x) hc .vector
  have hsc : Scalar.subi (Scalar.extui (Scalar.cmpi .sgt c 0#32)) (Scalar.extui (Scalar.cmpi .slt c 0#32)) = 1#32 := by
    have h1 : (0#32).slt c = true := by rw [BitVec.slt_eq_decide]; simp; omega
    have h2 : c.slt 0#32 = false := by rw [BitVec.slt_eq_decide]; simp; omega
    unfold Scalar.cmpi IntOp.cmpi
    simp only [h1, h2]; decide
  unfold fdivW
  rw [hsc]
  have hslt : x.slt 0#32 = false := by rw [BitVec.slt_eq_decide]; simp; omega
  unfold IntOp.cmpi
  simp only [hslt]
  rw [select_and, if_neg, hd, Int.tdiv_eq_ediv_of_nonneg hx]
  rintro ⟨h1, h2⟩
  rcases eq_or_lt_of_le hx with h | h
  · have hx0 : x = 0#32 := by rw [← BitVec.toInt_inj]; simpa using h.symm
    have : IntOp.remsi .vector x c = 0#32 := by
      rw [← BitVec.toInt_inj, hr, ← h]; simp
    rw [this] at h2; revert h2; decide
  · have hs : (0#32).slt x = true := by rw [BitVec.slt_eq_decide]; simpa using h
    rw [hs] at h1; revert h1; decide

end

/-- The lower of a group number (0 to 24) and 23, times the group's width, is an offset at which a window of a group's
    width lies inside a row. -/
theorem offset_inb (x : BitVec 32) :
    (Scalar.indexCast (Scalar.muli (Scalar.minsi (fdivW 4096#32 (fmodW 100000#32 x)) 23#32) 4096#32)).toNat + 4096 ≤ 100000 := by
  have h1 := fmodW_toInt (c := 100000#32) (x := x) (by decide)
  have hm : 0 ≤ (fmodW 100000#32 x).toInt := by rw [h1]; exact Int.emod_nonneg _ (by decide)
  have hm2 : (fmodW 100000#32 x).toInt < 100000 := by rw [h1]; exact Int.emod_lt_of_pos _ (by decide)
  have h2 := fdivW_toInt (c := 4096#32) (by decide) hm
  generalize fdivW 4096#32 (fmodW 100000#32 x) = g at h2
  have h3 : (4096#32).toInt = 4096 := by decide
  rw [h3] at h2
  have hg0 : 0 ≤ g.toInt := by omega
  unfold Scalar.indexCast Scalar.muli Scalar.minsi IntOp.muli IntOp.minsi
  rw [BitVec.slt_eq_decide]
  have h4 : (23#32).toInt = 23 := by decide
  rw [h4]
  split
  · rename_i h
    rw [decide_eq_true_eq] at h
    rw [BitVec.toNat_mul]
    have : g.toInt = (g.toNat : Int) := by rw [BitVec.toInt_eq_toNat_cond] at hg0 ⊢; split <;> simp_all; omega
    simp only [BitVec.toNat_ofNat]; omega
  · decide

/-! ## The same on vectors, as the kernel's text has them -/

section
variable {s : Shape}

/-- `x % c` on a vector, as lowered. -/
def fmodV (h : s.Broadcasts s) (c : BitVec 32) (x : IVec s 32) : IVec s 32 :=
  let d : BitVec 32 := Scalar.select (Scalar.cmpi .eq c 0#32) 1#32 c
  let r : IVec s 32 := remsi x (broadcast s d)
  select (andi (xori (cmpi .slt r (broadcast s 0#32)) (broadcastTo s (broadcast s (Scalar.cmpi .slt d 0#32)) h))
      (cmpi .ne r (broadcast s 0#32)))
    (addi r (broadcast s d)) r

/-- `x // c` on a vector, as lowered. -/
def fdivV (c : BitVec 32) (x : IVec s 32) : IVec s 32 :=
  select (andi
      (cmpi .ne (subi (extui 32 (cmpi .sgt x (broadcast s 0#32)) (by decide)) (extui 32 (cmpi .slt x (broadcast s 0#32)) (by decide)))
        (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- The vector of remainders, entry by entry. -/
theorem fmodV_apply (h : s.Broadcasts s) (c : BitVec 32) (x : IVec s 32) (i : s.Idx) : fmodV h c x i = fmodW c (x i) := rfl
/-- The vector of quotients, entry by entry. -/
theorem fdivV_apply (c : BitVec 32) (x : IVec s 32) (i : s.Idx) : fdivV c x i = fdivW c (x i) := rfl

end

/-- The shapes of one word. -/
abbrev U1 : Shape := ⟨1, ![1]⟩
abbrev U2 : Shape := ⟨2, ![1, 1]⟩
abbrev U3 : Shape := ⟨3, ![1, 1, 1]⟩

/-- The word of a one-element vector, as the kernel takes it out: a maximum over the one element. -/
def theWord (h1 : U2.ShapeCasts U3) (h2 : U3.Reduces [1, 2] U1) (h3 : U1.ShapeCasts U3) (h4 : ∀ a, (![0, 0, 0] : Fin 3 → Nat) a < U3.size a)
    (x : IVec U2 32) : BitVec 32 :=
  extractAt ![0, 0, 0] (shapeCast U3 (multiReductionI .maxsi [1, 2] U1 (shapeCast U3 x h1) 2147483648#32 h2 rfl) h3) h4

/-- A shape of one entry has one index. -/
theorem idx_U2 (i j : U2.Idx) : i = j := by
  funext a
  have h1 : U2.size a = 1 := by revert a; decide
  have := (i a).isLt; have := (j a).isLt
  exact Fin.ext (by omega)

/-- The signed minimum is neutral for the signed maximum. -/
theorem maxsi_low (x : BitVec 32) : IntOp.maxsi 2147483648#32 x = x := by
  unfold IntOp.maxsi
  have h : (2147483648#32).toInt ≤ x.toInt := by
    have := BitVec.le_toInt (x := x)
    have e : (2147483648#32).toInt = -2147483648 := by decide
    rw [e]; simpa using this
  rw [if_neg]
  rw [BitVec.slt_eq_decide, decide_eq_true_eq]
  omega

/-- The same of one axis. -/
theorem idx_U1 (i j : U1.Idx) : i = j := by
  funext a
  have h1 : U1.size a = 1 := by revert a; decide
  have := (i a).isLt; have := (j a).isLt
  exact Fin.ext (by omega)

/-- The one word of a one-entry vector. -/
theorem theWord_eq (h1 h2 h3 h4) (x : IVec U2 32) (i : U2.Idx) : theWord h1 h2 h3 h4 x = x i := by
  have hx : ∀ j, x j = x i := fun j => congrArg x (idx_U2 j i)
  unfold theWord extractAt shapeCast multiReductionI reduceFold
  simp only [hx]
  rw [show List.filter _ (List.finRange U3.numel) = List.finRange U3.numel from List.filter_eq_self.mpr fun n _ => by
    simp only [decide_eq_true_eq]; exact idx_U1 _ _]
  rw [show List.finRange U3.numel = [⟨0, by decide⟩] from by decide]
  exact maxsi_low _

/-- A window of a group's width, at eight whole rows of the thirty-two and at the offset of a group's number, lies inside
    the block: the side condition of the kernel's loads at computed offsets. -/
theorem window_inb (r : Nat) (hr : r + 8 ≤ 32) (h1 h2 h3 h4) (h : U2.Broadcasts U2) (fm : IVec U2 32) :
    ∀ a : Fin 2, (![r, (Scalar.indexCast (Scalar.muli (Scalar.minsi (theWord h1 h2 h3 h4 (fdivV 4096#32 (fmodV h 100000#32 fm))) 23#32) 4096#32)).toNat] : Fin 2 → Nat) a
      + (![8, 4096] : Fin 2 → Nat) a ≤ (![32, 100000] : Fin 2 → Nat) a := by
  rw [theWord_eq h1 h2 h3 h4 _ (fun a => ⟨0, by revert a; decide⟩), fdivV_apply, fmodV_apply]
  intro a
  fin_cases a
  · exact hr
  · exact offset_inb _

end Cert.Proof

end
-- ==== Proof.Whole.lean ====
/-
  A whole buffer held: its points-to at the contents that read the given value.
-/
module

public import Idealize.ShloMosaic.Lib.Pipeline.Frame
public import Idealize.ShloMosaic.Lib.Tactic

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {U : Type} [URA U]

/-- Holding a whole buffer that reads `X` is holding it at some contents that read `X`. -/
theorem owns_isWhole (c : Dev nD) {sp : Space} {s : Shape} {e : EltTy} {M : Memref sig .tc sp s e} (h : M.IsWhole) (X : s.Idx → Elt F e) :
    (owns (c : Thread nD τ) M fullShare X : sProp (MT nD τ sig Unit (Elt F) ℕ U ℕ))
      = iprop(∃ f : Buf (Elt F) (M.view.loc (c : Thread nD τ)), ⌜M.view.read (Elt F) f = X⌝ ∗ (M.view.loc (c : Thread nD τ) ↦{fullShare} f)) := by
  obtain ⟨b, rfl, rfl, rfl, hM⟩ := h
  cases hM
  rw [owns_whole_eq]
  rfl

end Cert.Proof

end
-- ==== Proof.KernelIdealBody.lean ====
module

public import proofs.«01_k».proof.Proof.Gen.KernelIdeal
public import proofs.«01_k».proof.Proof.Words
public import Idealize.ShloMosaic.Lib.Pipeline.Kit
public import Idealize.ShloMosaic.Lib.Tactic

@[expose] public section

set_option maxRecDepth 16384

noncomputable section

namespace Cert.Proof.KernelIdeal

open _root_.Cert.KernelIdeal _root_.Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def kernelRun (c : Dev nD) (i : grid0.Coords) (M1 : Memref sig .tc .vmem S32x100000 .f32) (h1 : M1.IsWhole) (M2 : Memref sig .tc .vmem S4x8x1 .f32) (h2 : M2.IsWhole) (M3 : Memref sig .tc .vmem S4x8x1 .f32) (h3 : M3.IsWhole) (M4 : Memref sig .tc .vmem S4x50x8 .i32) (h4 : M4.IsWhole) (M5 : Memref sig .tc .vmem S4x1x8 .f32) (h5 : M5.IsWhole) (M6 : Memref sig .tc .vmem S4x1x8 .i32) (h6 : M6.IsWhole) (M7 : Memref sig .tc .vmem S4x1x8 .i32) (h7 : M7.IsWhole) (M8 : Memref sig .tc .vmem S4x1x8 .f32) (h8 : M8.IsWhole) (M9 : Memref sig .tc .vmem S4x51x8 .i32) (h9 : M9.IsWhole) (M10 : Memref sig .tc .vmem S8x3200 .f32) (h10 : M10.IsWhole) (M11 : Memref sig .tc .vmem S8x3200 .f32) (h11 : M11.IsWhole) (M12 : Memref sig .tc .vmem S8x3200 .f32) (h12 : M12.IsWhole) (M13 : Memref sig .tc .vmem S8x3200 .f32) (h13 : M13.IsWhole) (M14 : Memref sig .tc .vmem S8x3200 .i32) (h14 : M14.IsWhole) (M15 : Memref sig .tc .vmem S8x3200 .i32) (h15 : M15.IsWhole) (M16 : Memref sig .tc .vmem S8x3200 .i32) (h16 : M16.IsWhole) (M17 : Memref sig .tc .vmem S8x3200 .i32) (h17 : M17.IsWhole) (f1 : Bf (F := F) c M1) (f2 : Bf (F := F) c M2) (f3 : Bf (F := F) c M3) (f4 : Bf (F := F) c M4) :
    { W : Bf (F := F) c M5 × Bf (F := F) c M6 × Bf (F := F) c M7 × Bf (F := F) c M8 × Bf (F := F) c M9 //
      ∀ (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2 ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
        ⊢ wp frame (wpE (defs₀ (F := F)) Variants.none c none) E
            (cc0__topk_body i M1 h1 M2 h2 M3 h3 M4 h4 M5 h5 M6 h6 M7 h7 M8 h8 M9 h9 M10 h10 M11 h11 M12 h12 M13 h13 M14 h14 M15 h15 M16 h16 M17 h17) Q } := by
  refine ⟨⟨?_, ?_, ?_, ?_, ?_⟩, fun f5 f6 f7 f8 f9 f10 f11 f12 f13 f14 f15 f16 f17 E Q => ?run⟩
  case run =>
    iintro ⟨H1, H2, H3, H4, H5, H6, H7, H8, H9, H10, H11, H12, H13, H14, H15, H16, H17, Hk⟩
    sl_exec_parts! (disch := exact window_inb _ (by decide) _ _ _ _ _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.KernelIdeal

end
-- ==== Proof.KernelIdealRun.lean ====
/-
  The launch of the kernel over the reals: its sixteen points around the body's run. The proof data of the pipeline (what every window's
  buffer holds after the body at every point), the body obligation, the run, and the frame claim.
-/
module

public import proofs.«01_k».proof.Proof.KernelIdealBody
public import proofs.«01_k».proof.Proof.Gen.KernelIdeal.Frame
public import proofs.«01_k».proof.Proof.Whole

@[expose] public section

set_option maxRecDepth 16384

noncomputable section

namespace Cert.Proof.KernelIdeal

open _root_.Cert.KernelIdeal _root_.Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Window 0's staging buffer at a point is a whole buffer. -/
theorem hst0 (t : Fin cfg0.N) : (st0_0 t).IsWhole := hstage0_0 ((cfg0.slots t 0).cast nbuf0_0)
/-- Window 1's staging buffer at a point is a whole buffer. -/
theorem hst1 (t : Fin cfg0.N) : (st0_1 t).IsWhole := hstage0_1 ((cfg0.slots t 1).cast nbuf0_1)
/-- Window 2's staging buffer at a point is a whole buffer. -/
theorem hst2 (t : Fin cfg0.N) : (st0_2 t).IsWhole := hstage0_2 ((cfg0.slots t 2).cast nbuf0_2)
/-- Window 3's staging buffer at a point is a whole buffer. -/
theorem hst3 (t : Fin cfg0.N) : (st0_3 t).IsWhole := hstage0_3 ((cfg0.slots t 3).cast nbuf0_3)
/-- Window 4's staging buffer at a point is a whole buffer. -/
theorem hst4 (t : Fin cfg0.N) : (st0_4 t).IsWhole := hstage0_4 ((cfg0.slots t 4).cast nbuf0_4)
/-- Window 5's staging buffer at a point is a whole buffer. -/
theorem hst5 (t : Fin cfg0.N) : (st0_5 t).IsWhole := hstage0_5 ((cfg0.slots t 5).cast nbuf0_5)
/-- Window 6's staging buffer at a point is a whole buffer. -/
theorem hst6 (t : Fin cfg0.N) : (st0_6 t).IsWhole := hstage0_6 ((cfg0.slots t 6).cast nbuf0_6)
/-- Window 7's staging buffer at a point is a whole buffer. -/
theorem hst7 (t : Fin cfg0.N) : (st0_7 t).IsWhole := hstage0_7 ((cfg0.slots t 7).cast nbuf0_7)
/-- Window 8's staging buffer at a point is a whole buffer. -/
theorem hst8 (t : Fin cfg0.N) : (st0_8 t).IsWhole := hstage0_8 ((cfg0.slots t 8).cast nbuf0_8)

/-- The body's run at a point, from the four input blocks. -/
abbrev K (c : Dev nD) (t : Fin cfg0.N) :=
  kernelRun (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    ((hst0 t).unread (iblk m c 0 t)) ((hst1 t).unread (iblk m c 1 t)) ((hst2 t).unread (iblk m c 2 t)) ((hst3 t).unread (iblk m c 3 t))

/-- What the body leaves in a window's buffer at a point: an input's block as fetched, a result's as the run leaves it. -/
def aft (c : Dev nD) : (w : Fin cfg0.W) → (t : Fin cfg0.N) → (cfg0.win w).block.Idx → Elt F (cfg0.win w).elt
  | ⟨0, _⟩, t => iblk m c 0 t
  | ⟨1, _⟩, t => iblk m c 1 t
  | ⟨2, _⟩, t => iblk m c 2 t
  | ⟨3, _⟩, t => iblk m c 3 t
  | ⟨4, _⟩, t => (st0_4 t).view.read (Elt F) (K m c t).1.1
  | ⟨5, _⟩, t => (st0_5 t).view.read (Elt F) (K m c t).1.2.1
  | ⟨6, _⟩, t => (st0_6 t).view.read (Elt F) (K m c t).1.2.2.1
  | ⟨7, _⟩, t => (st0_7 t).view.read (Elt F) (K m c t).1.2.2.2.1
  | ⟨8, _⟩, t => (st0_8 t).view.read (Elt F) (K m c t).1.2.2.2.2

/-- The proof data on core `c`: the arrays as the region finds them; after the body `aft`; between points the scratch
    buffers and the generator's register at something; nothing owed; full shares. -/
def dats (_ : Fin 1) (c : Dev nD) : Dat τ (Elt F) Unit ℕ (UR sig nD τ) ℕ cfg0 c where
  A w := V m c (Pipeline.arrRef spec0 w)
  after w t := aft m c w t
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-- The body table's row at a point is the body on that point's buffers. -/
theorem row (t : Fin cfg0.N) : defs₀ (F := F) .tc cfg0.body (cfg0.bodyArgs t (cfg0.slots t)) = bodyAt0 t := by
  unfold defs₀; rw [Defs.onTc_tc]

set_option maxHeartbeats 4000000 in
/-- The body at a point: the buffers taken apart, the body's run applied at the input blocks, its post put together
    again. -/
theorem sound (c : Dev nD) (t : Fin cfg0.N) :
    (iprop(Pipeline.ΦA spec0 c ∗ (dats m 0 c).owesAt () t.castSucc
      ∗ (∃ d, owns c (st0_0 t) fullShare ((dats m 0 c).before 0 t d))
      ∗ (∃ d, owns c (st0_1 t) fullShare ((dats m 0 c).before 1 t d))
      ∗ (∃ d, owns c (st0_2 t) fullShare ((dats m 0 c).before 2 t d))
      ∗ (∃ d, owns c (st0_3 t) fullShare ((dats m 0 c).before 3 t d))
      ∗ (∃ d, owns c (st0_4 t) fullShare ((dats m 0 c).before 4 t d))
      ∗ (∃ d, owns c (st0_5 t) fullShare ((dats m 0 c).before 5 t d))
      ∗ (∃ d, owns c (st0_6 t) fullShare ((dats m 0 c).before 6 t d))
      ∗ (∃ d, owns c (st0_7 t) fullShare ((dats m 0 c).before 7 t d))
      ∗ (∃ d, owns c (st0_8 t) fullShare ((dats m 0 c).before 8 t d))) : sProp 𝕄)
    ⊢ wp frame (wpE (defs₀ (F := F)) Variants.none c none) Set.univ (bodyAt0 t) fun _ =>
      iprop(Pipeline.ΦA spec0 c ∗ (dats m 0 c).owesAt () t.castSucc
      ∗ owns c (st0_0 t) fullShare (aft m c 0 t)
      ∗ owns c (st0_1 t) fullShare (aft m c 1 t)
      ∗ owns c (st0_2 t) fullShare (aft m c 2 t)
      ∗ owns c (st0_3 t) fullShare (aft m c 3 t)
      ∗ owns c (st0_4 t) fullShare (aft m c 4 t)
      ∗ owns c (st0_5 t) fullShare (aft m c 5 t)
      ∗ owns c (st0_6 t) fullShare (aft m c 6 t)
      ∗ owns c (st0_7 t) fullShare (aft m c 7 t)
      ∗ owns c (st0_8 t) fullShare (aft m c 8 t)) := by
  have o0 := fun X => owns_isWhole (τ := τ) (U := UR sig nD τ) (F := F) c (hst0 t) X
  have o1 := fun X => owns_isWhole (τ := τ) (U := UR sig nD τ) (F := F) c (hst1 t) X
  have o2 := fun X => owns_isWhole (τ := τ) (U := UR sig nD τ) (F := F) c (hst2 t) X
  have o3 := fun X => owns_isWhole (τ := τ) (U := UR sig nD τ) (F := F) c (hst3 t) X
  have o4 := fun X => owns_isWhole (τ := τ) (U := UR sig nD τ) (F := F) c (hst4 t) X
  have o5 := fun X => owns_isWhole (τ := τ) (U := UR sig nD τ) (F := F) c (hst5 t) X
  have o6 := fun X => owns_isWhole (τ := τ) (U := UR sig nD τ) (F := F) c (hst6 t) X
  have o7 := fun X => owns_isWhole (τ := τ) (U := UR sig nD τ) (F := F) c (hst7 t) X
  have o8 := fun X => owns_isWhole (τ := τ) (U := UR sig nD τ) (F := F) c (hst8 t) X
  unfold Pipeline.ΦA; rw [scopedRest0_eq]
  simp only [o0, o1, o2, o3, o4, o5, o6, o7, o8]
  iintro ⟨⟨⟨⟨%g0, G0⟩, ⟨%g1, G1⟩, ⟨%g2, G2⟩, ⟨%g3, G3⟩, ⟨%g4, G4⟩, ⟨%g5, G5⟩, ⟨%g6, G6⟩, ⟨%g7, G7⟩⟩, Hg⟩, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩, ⟨%d7, %f7, -, H7⟩, ⟨%d8, %f8, -, H8⟩⟩
  rw [before0_0_of m (dats m 0 c) (A_eq m c 0) (fun _ => rfl)] at hf0
  obtain rfl := (hst0 t).eq_unread hf0
  rw [before0_1_of m (dats m 0 c) (A_eq m c 1) (fun _ => rfl)] at hf1
  obtain rfl := (hst1 t).eq_unread hf1
  rw [before0_2_of m (dats m 0 c) (A_eq m c 2) (fun _ => rfl)] at hf2
  obtain rfl := (hst2 t).eq_unread hf2
  rw [before0_3_of m (dats m 0 c) (A_eq m c 3) (fun _ => rfl)] at hf3
  obtain rfl := (hst3 t).eq_unread hf3
  iapply ((K m c t).2 f4 f5 f6 f7 f8 g0 g1 g2 g3 g4 g5 g6 g7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, H6, H7, H8, G0, G1, G2, G3, G4, G5, G6, G7⟩
  isplitl [G0 G1 G2 G3 G4 G5 G6 G7 Hg]
  · isplitr [Hg]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    · iexact Hg
  isplitl [Howes]; · iexact Howes
  isplitl [H0]; · iexists _; isplitr; swap; (· iexact H0); ipureintro; exact (hst0 t).read_unread _
  isplitl [H1]; · iexists _; isplitr; swap; (· iexact H1); ipureintro; exact (hst1 t).read_unread _
  isplitl [H2]; · iexists _; isplitr; swap; (· iexact H2); ipureintro; exact (hst2 t).read_unread _
  isplitl [H3]; · iexists _; isplitr; swap; (· iexact H3); ipureintro; exact (hst3 t).read_unread _
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexists _; isplitr; swap; (· iexact H8); ipureintro; rfl

/-- The body obligation at every point. -/
theorem body_obligation (c : Dev nD) : BodyObligation (dats m 0 c) (defs₀ (F := F)) Variants.none () Set.univ := fun t => by
  rw [bigSep_W0, bigSep_W0, row]
  exact triple_restated (sound m c t) rfl .rfl fun _ => .rfl

/-! ## The run -/

/-- What holds at the end of every execution: the arrays at what the sixteen points write back, the other buffers at what
    the host lines leave, every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (fun c => (body_obligation m c).loose) (fun c w => by fin_cases w <;> rfl) (fun _ _ => rfl) (V0 m) [hostOps1] sfx_sub sfx_fresh sfx_keeps
    (hmain m Variants.none) (A_eq m) (fun _ _ => rfl) _ (fun _ h => h)

/-- The arguments at the end of an execution are those at its start. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

/-- The frame claim: every execution ends, leaves the arguments as they were and every semaphore counter at zero. -/
theorem frameClaim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args_kept m h.1, h.2⟩) (run_main m ρ)

end Cert.Proof.KernelIdeal

end
-- ==== Proof.Blocks.lean ====
/-
  The blocks the kernel's points are given, read at an entry of the arguments.
-/
module

public import proofs.«01_k».proof.Proof.KernelIdealRun
public import Idealize.ShloMosaic.Lib.StableHlo.Run
public import Idealize.ShloMosaic.Lib.Pointwise

@[expose] public section

set_option maxRecDepth 16384

noncomputable section

namespace Cert.Proof.KernelIdeal

open _root_.Cert.KernelIdeal _root_.Cert.KernelIdeal.Gen _root_.Cert.KernelIdeal.Facts

open Idealize.ShloMosaic Idealize.ShloMosaic.TcCoe

variable (m : (ℓ : Loc nD τ sig) → Buf (Elt Ideal) ℓ) (c : Dev nD)

/-- The four arguments. -/
abbrev a0 : FVec Ideal S512x1x100000 .f32 := m ((c.tc : Thread nD τ).loc main_arg0)
abbrev a1 : FVec Ideal S64x8 .f32 := m ((c.tc : Thread nD τ).loc main_arg1)
abbrev a2 : IVec S50x64x8 32 := m ((c.tc : Thread nD τ).loc main_arg2)
abbrev a3 : IVec S64x8 1 := m ((c.tc : Thread nD τ).loc main_arg3)

/-- The region finds the scores as rows of words. -/
theorem V_v0 : V m c main_v0 = shapeCast S512x100000 (a0 m c) shapeCasts_S512x1x100000_S512x100000 := by
  unfold V V0
  simp only [List.flatten_cons, List.flatten_nil, List.append_nil, List.cons_append, List.nil_append]
  after_results_simp
  rfl

/-- It finds the beams' scores with a last axis of one. -/
theorem V_v1 : V m c main_v1 = shapeCast S64x8x1 (a1 m c) shapeCasts_S64x8_S64x8x1 := by
  unfold V V0
  simp only [List.flatten_cons, List.flatten_nil, List.append_nil, List.cons_append, List.nil_append]
  after_results_simp
  rfl

/-- It finds the flags as numbers, with a last axis of one. -/
theorem V_v3 : V m c main_v3 = shapeCast S64x8x1 (uitofp .f32 (a3 m c) : FVec Ideal S64x8 .f32) shapeCasts_S64x8_S64x8x1 := by
  unfold V V0
  simp only [List.flatten_cons, List.flatten_nil, List.append_nil, List.cons_append, List.nil_append]
  after_results_simp
  rfl

/-- It finds the histories with the batch row first. -/
theorem V_v4 : V m c main_v4 = transpose S64x50x8 [1, 0, 2] (a2 m c) transposes_S50x64x8_S64x50x8_1_0_2 := by
  unfold V V0
  simp only [List.flatten_cons, List.flatten_nil, List.append_nil, List.cons_append, List.nil_append]
  after_results_simp

/-- There are sixteen points. -/
theorem pt_lt (t : Fin cfg0.N) : t.val < 16 :=
  lt_of_lt_of_eq t.isLt N_0

/-- The scores' block of a point starts at row `32 t`. -/
theorem idx0 (t : Fin cfg0.N) : win0_0.index t 0 * win0_0.size 0 = 32 * t.val ∧ win0_0.index t 1 * win0_0.size 1 = 0 := by
  rcases fin_N0 t with rfl | rfl | rfl | rfl | rfl | rfl | rfl | rfl | rfl | rfl | rfl | rfl | rfl | rfl | rfl | rfl <;> decide +kernel

/-- The beams' scores' block starts at batch row `4 t`. -/
theorem idx1 (t : Fin cfg0.N) : win0_1.index t 0 * win0_1.size 0 = 4 * t.val ∧ win0_1.index t 1 * win0_1.size 1 = 0 ∧ win0_1.index t 2 * win0_1.size 2 = 0 := by
  rcases fin_N0 t with rfl | rfl | rfl | rfl | rfl | rfl | rfl | rfl | rfl | rfl | rfl | rfl | rfl | rfl | rfl | rfl <;> decide +kernel

/-- The flags' block starts at batch row `4 t`. -/
theorem idx2 (t : Fin cfg0.N) : win0_2.index t 0 * win0_2.size 0 = 4 * t.val ∧ win0_2.index t 1 * win0_2.size 1 = 0 ∧ win0_2.index t 2 * win0_2.size 2 = 0 := by
  rcases fin_N0 t with rfl | rfl | rfl | rfl | rfl | rfl | rfl | rfl | rfl | rfl | rfl | rfl | rfl | rfl | rfl | rfl <;> decide +kernel

/-- The histories' block starts at batch row `4 t`. -/
theorem idx3 (t : Fin cfg0.N) : win0_3.index t 0 * win0_3.size 0 = 4 * t.val ∧ win0_3.index t 1 * win0_3.size 1 = 0 ∧ win0_3.index t 2 * win0_3.size 2 = 0 := by
  rcases fin_N0 t with rfl | rfl | rfl | rfl | rfl | rfl | rfl | rfl | rfl | rfl | rfl | rfl | rfl | rfl | rfl | rfl <;> decide +kernel

/-- The batch row of a point's row `b` of four. -/
def brow (t : Fin cfg0.N) (b : Fin 4) : Fin 64 := ⟨4 * t.val + b.val, by have := pt_lt t; omega⟩

/-- The scores' block: rows `32 t` and on. -/
theorem iblk0 (t : Fin cfg0.N) (i : Fin 32) (v : Fin 100000) :
    iblk m c 0 t (ix2 i v) = a0 m c (ix3 ⟨32 * t.val + i.val, by have := pt_lt t; omega⟩ 0 v) := by
  have h : iblk m c 0 t (ix2 i v) = V m c main_v0 ((win0_0.rect t).emb (ix2 i v)) := rfl
  have e : (win0_0.rect t).emb (ix2 i v) = ix2 ⟨32 * t.val + i.val, by have := pt_lt t; omega⟩ v := by
    funext a
    fin_cases a
    · apply Fin.ext
      show win0_0.index t 0 * win0_0.size 0 + 1 * i.val = _
      rw [(idx0 t).1]
      show _ = 32 * t.val + i.val
      omega
    · apply Fin.ext
      show win0_0.index t 1 * win0_0.size 1 + 1 * v.val = _
      rw [(idx0 t).2]
      show _ = v.val
      omega
  rw [h, e, V_v0]
  pointwise

/-- The beams' scores' block. -/
theorem iblk1 (t : Fin cfg0.N) (b : Fin 4) (k : Fin 8) : iblk m c 1 t (ix3 b k 0) = a1 m c (ix2 (brow t b) k) := by
  have h : iblk m c 1 t (ix3 b k 0) = V m c main_v1 ((win0_1.rect t).emb (ix3 b k 0)) := rfl
  have e : (win0_1.rect t).emb (ix3 b k 0) = ix3 (brow t b) k 0 := by
    funext a
    fin_cases a
    · apply Fin.ext
      show win0_1.index t 0 * win0_1.size 0 + 1 * b.val = _
      rw [(idx1 t).1]
      show _ = 4 * t.val + b.val
      omega
    · apply Fin.ext
      show win0_1.index t 1 * win0_1.size 1 + 1 * k.val = _
      rw [(idx1 t).2.1]
      show _ = k.val
      omega
    · apply Fin.ext
      show win0_1.index t 2 * win0_1.size 2 + 1 * 0 = _
      rw [(idx1 t).2.2]
      rfl
  rw [h, e, V_v1]
  pointwise

/-- The flags' block, as numbers. -/
theorem iblk2 (t : Fin cfg0.N) (b : Fin 4) (k : Fin 8) :
    iblk m c 2 t (ix3 b k 0) = (((a3 m c (ix2 (brow t b) k)).toNat : ℝ) : EReal) := by
  have h : iblk m c 2 t (ix3 b k 0) = V m c main_v3 ((win0_2.rect t).emb (ix3 b k 0)) := rfl
  have e : (win0_2.rect t).emb (ix3 b k 0) = ix3 (brow t b) k 0 := by
    funext a
    fin_cases a
    · apply Fin.ext
      show win0_2.index t 0 * win0_2.size 0 + 1 * b.val = _
      rw [(idx2 t).1]
      show _ = 4 * t.val + b.val
      omega
    · apply Fin.ext
      show win0_2.index t 1 * win0_2.size 1 + 1 * k.val = _
      rw [(idx2 t).2.1]
      show _ = k.val
      omega
    · apply Fin.ext
      show win0_2.index t 2 * win0_2.size 2 + 1 * 0 = _
      rw [(idx2 t).2.2]
      rfl
  have g : shapeCast S64x8x1 (uitofp .f32 (a3 m c) : FVec Ideal S64x8 .f32) shapeCasts_S64x8_S64x8x1 (ix3 (brow t b) k 0)
      = (uitofp .f32 (a3 m c) : FVec Ideal S64x8 .f32) (ix2 (brow t b) k) := by
    pointwise
  rw [h, e, V_v3]
  exact g.trans rfl

/-- The histories' block. -/
theorem iblk3 (t : Fin cfg0.N) (b : Fin 4) (j : Fin 50) (k : Fin 8) : iblk m c 3 t (ix3 b j k) = a2 m c (ix3 j (brow t b) k) := by
  have h : iblk m c 3 t (ix3 b j k) = V m c main_v4 ((win0_3.rect t).emb (ix3 b j k)) := rfl
  have e : (win0_3.rect t).emb (ix3 b j k) = ix3 (brow t b) j k := by
    funext a
    fin_cases a
    · apply Fin.ext
      show win0_3.index t 0 * win0_3.size 0 + 1 * b.val = _
      rw [(idx3 t).1]
      show _ = 4 * t.val + b.val
      omega
    · apply Fin.ext
      show win0_3.index t 1 * win0_3.size 1 + 1 * j.val = _
      rw [(idx3 t).2.1]
      show _ = j.val
      omega
    · apply Fin.ext
      show win0_3.index t 2 * win0_3.size 2 + 1 * k.val = _
      rw [(idx3 t).2.2]
      show _ = k.val
      omega
  rw [h, e, V_v4]
  pointwise

end Cert.Proof.KernelIdeal

end
-- ==== Proof.Spec.lean ====
/-
  What the kernel body computes, written once as functions of the loaded blocks: the running maximum of a column of a
  group of four thousand and ninety-six scores, the two tables of candidates, one selection round, and the results.
-/
module

public import proofs.«01_k».proof.Proof.KernelIdealBody
public import Idealize.ShloMosaic.Lib.Pipeline.FrameBody
public import Idealize.ShloMosaic.Lib.Pipeline.Kit
public import Idealize.ShloMosaic.Lib.Tactic

@[expose] public section

set_option maxRecDepth 16384

noncomputable section

namespace Cert.Proof.KernelIdeal

open _root_.Cert.KernelIdeal _root_.Cert.KernelIdeal.Gen _root_.Cert.KernelIdeal.Facts

open Idealize.ShloMosaic

variable {F : FTy → Type} [FloatOps F]

/-- Row `b` of four lies inside the blocks of four. -/
theorem inb3 (b : Nat) (hb : b < 4) : ∀ a : Fin 3, (![b, 0, 0] : Fin 3 → Nat) a + S1x8x1.size a ≤ S4x8x1.size a := by
  intro a; fin_cases a <;> simp [S1x8x1, S4x8x1]; omega

/-- A row's histories lie in their block. -/
theorem inb4 (b : Nat) (hb : b < 4) : ∀ a : Fin 3, (![b, 0, 0] : Fin 3 → Nat) a + S1x50x8.size a ≤ S4x50x8.size a := by
  intro a; fin_cases a <;> simp [S1x50x8, S4x50x8]; omega

/-- A tile of 128 words lies in the scores' block. -/
theorem inbT (b : Nat) (hb : b < 4) (c : Nat) (hc : c + 128 ≤ 100000) :
    ∀ a : Fin 2, (![8 * b, c] : Fin 2 → Nat) a + S8x128.size a ≤ S32x100000.size a := by
  intro a; fin_cases a <;> simp [S8x128, S32x100000] <;> omega

/-- The last 32 words lie in it. -/
theorem inbE (b : Nat) (hb : b < 4) :
    ∀ a : Fin 2, (![8 * b, 99968] : Fin 2 → Nat) a + S8x32.size a ≤ S32x100000.size a := by
  intro a; fin_cases a <;> simp [S8x32, S32x100000]; omega

/-- The last group lies in it. -/
theorem inbL (b : Nat) (hb : b < 4) :
    ∀ a : Fin 2, (![8 * b, 98304] : Fin 2 → Nat) a + S8x1696.size a ≤ S32x100000.size a := by
  intro a; fin_cases a <;> simp [S8x1696, S32x100000]; omega

/-- A group's columns lie in the table. -/
theorem inbP (k : Nat) (hk : k < 25) : ∀ a : Fin 2, (![0, 128 * k] : Fin 2 → Nat) a + S8x128.size a ≤ S8x3200.size a := by
  intro a; fin_cases a <;> simp [S8x128, S8x3200]; omega

section
variable (c : Dev nD) (M1 : Memref sig .tc .vmem S32x100000 .f32) (f1 : Bf (F := F) c M1)
  (M2 M3 : Memref sig .tc .vmem S4x8x1 .f32) (f2 : Bf (F := F) c M2)
  (f3 : Bf (F := F) c M3)
  (M4 : Memref sig .tc .vmem S4x50x8 .i32) (f4 : Bf (F := F) c M4)
  (MA : Memref sig .tc .vmem S8x3200 .f32) (MF : Memref sig .tc .vmem S8x3200 .i32)
  (b : Nat) (hb : b < 4)

/-- The eight scores of the beams so far. -/
def prS : FVec F S8x1 .f32 :=
  shapeCast S8x1 (View.readAt (Elt F) M2.view (Rect.unit (s := S4x8x1) ![b, 0, 0] S1x8x1.size (inb3 b hb)).toLoadRect f2) shapeCasts_S1x8x1_S8x1

/-- The flags of the beams that have ended. -/
def enB : IVec S8x1 1 := cmpf .ogt (prS c M3 f3 b hb) (broadcast S8x1 (Scalar.ofBits .f32 0x3F000000#32))

/-- The score each beam adds: minus infinity at an ended one. -/
def prmS : FVec F S8x1 .f32 :=
  select (enB c M3 f3 b hb) (broadcast S8x1 (Scalar.ofBits .f32 0xFF800000#32)) (prS c M2 f2 b hb)

/-- A tile of eight rows and 128 columns. -/
def tileS (o : Nat) (ho : o + 128 ≤ 100000) : FVec F S8x128 .f32 :=
  shapeCast S8x128 (View.readAt (Elt F) M1.view (Rect.unit (s := S32x100000) ![8 * b, o] S8x128.size (inbT b hb o ho)).toLoadRect f1) shapeCasts_S8x128_S8x128

/-- The running maximum over the first `n + 1` tiles of a group. -/
def accS (g : Nat) : (n : Nat) → (4096 * g + 128 * n + 128 ≤ 100000) → FVec F S8x128 .f32
  | 0, h => tileS c M1 f1 b hb (4096 * g + 128 * 0) h
  | n + 1, h => maximumf (accS g n (by omega)) (tileS c M1 f1 b hb (4096 * g + 128 * (n + 1)) h)

/-- The tile the running maximum was first met at. -/
def uaccS (g : Nat) : (n : Nat) → (4096 * g + 128 * n + 128 ≤ 100000) → IVec S8x128 32
  | 0, _ => broadcast S8x128 0#32
  | n + 1, h => select (cmpf .ogt (tileS c M1 f1 b hb (4096 * g + 128 * (n + 1)) h) (accS c M1 f1 b hb g n (by omega)))
      (broadcast S8x128 (BitVec.ofNat 32 (n + 1))) (uaccS g n (by omega))

/-- The last tile, of 32 columns, filled up with minus infinity. -/
def lastS : FVec F S8x128 .f32 :=
  concatenate S8x128 1 [⟨S8x32, shapeCast S8x32 (View.readAt (Elt F) M1.view (Rect.unit (s := S32x100000) ![8 * b, 99968] S8x32.size (inbE b hb)).toLoadRect f1) shapeCasts_S8x32_S8x32⟩,
    ⟨S8x96, broadcast S8x96 (Scalar.ofBits .f32 0xFF800000#32 : F .f32)⟩] concatenates_S8x32_S8x96_S8x128_d1

/-- The stores of the first `k` groups' maxima, the latest first. -/
def piecesA : (k : Nat) → k ≤ 24 → List (View.Piece (Elt F) S8x3200 .f32)
  | 0, _ => []
  | k + 1, h => ⟨Rect.unit (s := S8x3200) ![0, 128 * k] S8x128.size (inbP k (by omega)), shapeCast S8x128 (accS c M1 f1 b hb k 31 (by omega)) shapeCasts_S8x128_S8x128⟩
      :: piecesA k (by omega)

/-- The stores of the first `k` groups' tiles, the latest first. -/
def piecesF : (k : Nat) → k ≤ 24 → List (View.Piece (Elt F) S8x3200 .i32)
  | 0, _ => []
  | k + 1, h => ⟨Rect.unit (s := S8x3200) ![0, 128 * k] S8x128.size (inbP k (by omega)), shapeCast S8x128 (uaccS c M1 f1 b hb k 31 (by omega)) shapeCasts_S8x128_S8x128⟩
      :: piecesF k (by omega)

/-- All the stores of the maxima. -/
def allA : List (View.Piece (Elt F) S8x3200 .f32) :=
  ⟨Rect.unit (s := S8x3200) ![0, 128 * 24] S8x128.size (inbP 24 (by omega)), shapeCast S8x128 (maximumf (accS c M1 f1 b hb 24 12 (by omega)) (lastS c M1 f1 b hb)) shapeCasts_S8x128_S8x128⟩
    :: piecesA c M1 f1 b hb 24 le_rfl

/-- All the stores of the tiles. -/
def allF : List (View.Piece (Elt F) S8x3200 .i32) :=
  ⟨Rect.unit (s := S8x3200) ![0, 128 * 24] S8x128.size (inbP 24 (by omega)),
    shapeCast S8x128 (select (cmpf .ogt (lastS c M1 f1 b hb) (accS c M1 f1 b hb 24 12 (by omega))) (broadcast S8x128 13#32) (uaccS c M1 f1 b hb 24 12 (by omega))) shapeCasts_S8x128_S8x128⟩
    :: piecesF c M1 f1 b hb 24 le_rfl

/-- Where an ended beam keeps its one candidate: the end token. -/
def endfix : IVec S8x3200 1 :=
  andi (broadcastTo S8x3200 (enB c M3 f3 b hb) broadcasts_S8x1_S8x3200)
    (cmpi .eq (iota .tc S8x3200 32 [1] iota_S8x3200_d1_w32) (broadcast S8x3200 2#32))

/-- The table of maxima the rounds begin with. -/
def initA : FVec F S8x3200 .f32 :=
  shapeCast S8x3200 (select (endfix c M3 f3 b hb)
      (broadcastTo S8x3200 (shapeCast S8x1 (prS c M2 f2 b hb) shapeCasts_S8x1_S8x1) broadcasts_S8x1_S8x3200)
      (addf (MA.view.readCov (allA c M1 f1 b hb) (Rect.unit (s := S8x3200) ![0, 0] S8x3200.size inb_S8x3200_S8x3200_0_0).toLoadRect)
        (broadcastTo S8x3200 (prmS c M2 M3 f2 f3 b hb) broadcasts_S8x1_S8x3200)))
    shapeCasts_S8x3200_S8x3200

/-- The table of their places the rounds begin with. -/
def initF : IVec S8x3200 32 :=
  shapeCast S8x3200 (addi (addi (addi (muli (iota .tc S8x3200 32 [0] iota_S8x3200_d0_w32) (broadcast S8x3200 100000#32))
        (muli (fdivV 128#32 (iota .tc S8x3200 32 [1] iota_S8x3200_d1_w32)) (broadcast S8x3200 4096#32)))
        (fmodV broadcasts_S8x3200_S8x3200 128#32 (iota .tc S8x3200 32 [1] iota_S8x3200_d1_w32)))
      (muli (select (endfix c M3 f3 b hb) (broadcast S8x3200 0#32)
          (MF.view.readCov (allF c M1 f1 b hb) (Rect.unit (s := S8x3200) ![0, 0] S8x3200.size inb_S8x3200_S8x3200_0_0).toLoadRect))
        (broadcast S8x3200 128#32)))
    shapeCasts_S8x3200_S8x3200

end

/-! ## One round -/

/-- The largest entry. -/
def mxR (A : FVec F S8x3200 .f32) : FVec F S1x1 .f32 :=
  broadcast S1x1 (extractAt ![0, 0, 0] (shapeCast S1x1x1 (multiReduction .maximumf [1, 2] S1 (shapeCast S1x8x3200 A shapeCasts_S8x3200_S1x8x3200)
    0xFF800000#32 reduces_S1x8x3200_S1 (.inl rfl) rfl) shapeCasts_S1_S1x1x1) inpos_S1x1x1_p0_0_0)

/-- The least place of the largest entry. -/
def fmR (A : FVec F S8x3200 .f32) (P : IVec S8x3200 32) : IVec S1x1 32 :=
  broadcast S1x1 (extractAt ![0, 0, 0] (shapeCast S1x1x1 (multiReductionI .minsi [1, 2] S1 (shapeCast S1x8x3200
    (select (cmpf .oeq A (broadcastTo S8x3200 (mxR A) broadcasts_S1x1_S8x3200)) P (broadcast S8x3200 1073741824#32) : IVec S8x3200 32) shapeCasts_S8x3200_S1x8x3200)
    2147483647#32 reduces_S1x8x3200_S1 rfl) shapeCasts_S1_S1x1x1) inpos_S1x1x1_p0_0_0)

section
variable (fm : IVec S1x1 32)

/-- The row of a place. -/
def kbR : IVec S1x1 32 := fdivV 100000#32 fm
/-- The column of a place. -/
def vbR : IVec S1x1 32 := fmodV broadcasts_S1x1_S1x1 100000#32 fm
/-- The group of a place. -/
def gbR : IVec S1x1 32 := fdivV 4096#32 (vbR fm)
/-- The lane of a place. -/
def lbR : IVec S1x1 32 := fmodV broadcasts_S1x1_S1x1 128#32 (vbR fm)
/-- Whether the place is in the last group. -/
def tailR : IVec S1x1 1 := cmpi .eq (gbR fm) (broadcast S1x1 24#32)
/-- Where the window of the place's group begins. -/
def sR : BitVec 32 :=
  Scalar.muli (Scalar.minsi (theWord shapeCasts_S1x1_S1x1x1 reduces_S1x1x1_S1 shapeCasts_S1_S1x1x1 inpos_S1x1x1_p0_0_0 (gbR fm)) 23#32) 4096#32
/-- The rows that are the place's. -/
def rowR : IVec S8x1 1 := cmpi .eq (iota .tc S8x1 32 [0] iota_S8x1_d0_w32) (broadcastTo S8x1 (kbR fm) broadcasts_S1x1_S8x1)

end

section
variable (c : Dev nD) (M1 : Memref sig .tc .vmem S32x100000 .f32) (f1 : Bf (F := F) c M1)
  (b : Nat) (hb : b < 4) (prm : FVec F S8x1 .f32) (mx : FVec F S1x1 .f32) (fm : IVec S1x1 32)

/-- The scores in the window of the place's group. -/
def xdR : FVec F S8x4096 .f32 :=
  addf (shapeCast S8x4096 (View.readAt (Elt F) M1.view (Rect.unit (s := S32x100000) ![8 * b, (Scalar.indexCast (sR fm)).toNat] S8x4096.size
      (window_inb (8 * b) (by omega) _ _ _ _ _ fm)).toLoadRect f1) shapeCasts_S8x4096_S8x4096)
    (broadcastTo S8x4096 prm broadcasts_S8x1_S8x4096)

/-- The scores in the last group. -/
def xtR : FVec F S8x1696 .f32 :=
  addf (shapeCast S8x1696 (View.readAt (Elt F) M1.view (Rect.unit (s := S32x100000) ![8 * b, 98304] S8x1696.size (inbL b hb)).toLoadRect f1) shapeCasts_S8x1696_S8x1696)
    (broadcastTo S8x1696 prm broadcasts_S8x1_S8x1696)

/-- Those of them still to be taken from the place's column, minus infinity elsewhere. -/
def xmdR : FVec F S8x4096 .f32 :=
  select (andi (andi (broadcastTo S8x4096 (andi (rowR fm) (broadcastTo S8x1 (xori (tailR fm) (constantI S1x1 1 1#1)) broadcasts_S1x1_S8x1)) broadcasts_S8x1_S8x4096)
      (cmpi .eq (fmodV broadcasts_S8x4096_S8x4096 128#32 (iota .tc S8x4096 32 [1] iota_S8x4096_d1_w32)) (broadcastTo S8x4096 (lbR fm) broadcasts_S1x1_S8x4096)))
      (ori (cmpf .olt (xdR c M1 f1 b hb prm fm) (broadcastTo S8x4096 mx broadcasts_S1x1_S8x4096))
        (andi (cmpf .oeq (xdR c M1 f1 b hb prm fm) (broadcastTo S8x4096 mx broadcasts_S1x1_S8x4096))
          (cmpi .sgt (iota .tc S8x4096 32 [1] iota_S8x4096_d1_w32) (broadcastTo S8x4096 (subi (vbR fm) (broadcast S1x1 (sR fm))) broadcasts_S1x1_S8x4096)))))
    (xdR c M1 f1 b hb prm fm) (broadcast S8x4096 (Scalar.ofBits .f32 0xFF800000#32))

/-- The same in the last group. -/
def xmtR : FVec F S8x1696 .f32 :=
  select (andi (andi (broadcastTo S8x1696 (andi (rowR fm) (broadcastTo S8x1 (tailR fm) broadcasts_S1x1_S8x1)) broadcasts_S8x1_S8x1696)
      (cmpi .eq (fmodV broadcasts_S8x1696_S8x1696 128#32 (iota .tc S8x1696 32 [1] iota_S8x1696_d1_w32)) (broadcastTo S8x1696 (lbR fm) broadcasts_S1x1_S8x1696)))
      (ori (cmpf .olt (xtR c M1 f1 b hb prm) (broadcastTo S8x1696 mx broadcasts_S1x1_S8x1696))
        (andi (cmpf .oeq (xtR c M1 f1 b hb prm) (broadcastTo S8x1696 mx broadcasts_S1x1_S8x1696))
          (cmpi .sgt (iota .tc S8x1696 32 [1] iota_S8x1696_d1_w32) (broadcastTo S8x1696 (subi (vbR fm) (broadcast S1x1 98304#32)) broadcasts_S1x1_S8x1696)))))
    (xtR c M1 f1 b hb prm) (broadcast S8x1696 (Scalar.ofBits .f32 0xFF800000#32))

end

/-- The largest of a window. -/
def nbdR (X : FVec F S8x4096 .f32) : FVec F S1x1 .f32 :=
  broadcast S1x1 (extractAt ![0, 0, 0] (shapeCast S1x1x1 (multiReduction .maximumf [1, 2] S1 (shapeCast S1x8x4096 X shapeCasts_S8x4096_S1x8x4096)
    0xFF800000#32 reduces_S1x8x4096_S1 (.inl rfl) rfl) shapeCasts_S1_S1x1x1) inpos_S1x1x1_p0_0_0)

/-- The largest of the last group. -/
def nbtR (X : FVec F S8x1696 .f32) : FVec F S1x1 .f32 :=
  broadcast S1x1 (extractAt ![0, 0, 0] (shapeCast S1x1x1 (multiReduction .maximumf [1, 2] S1 (shapeCast S1x8x1696 X shapeCasts_S8x1696_S1x8x1696)
    0xFF800000#32 reduces_S1x8x1696_S1 (.inl rfl) rfl) shapeCasts_S1_S1x1x1) inpos_S1x1x1_p0_0_0)

/-- The least column of the largest of a window. -/
def nvdR (X : FVec F S8x4096 .f32) (s : BitVec 32) : IVec S1x1 32 :=
  broadcast S1x1 (extractAt ![0, 0, 0] (shapeCast S1x1x1 (multiReductionI .minsi [1, 2] S1 (shapeCast S1x8x4096
    (select (cmpf .oeq X (broadcastTo S8x4096 (nbdR X) broadcasts_S1x1_S8x4096)) (addi (iota .tc S8x4096 32 [1] iota_S8x4096_d1_w32) (broadcast S8x4096 s))
      (broadcast S8x4096 1073741824#32) : IVec S8x4096 32) shapeCasts_S8x4096_S1x8x4096)
    2147483647#32 reduces_S1x8x4096_S1 rfl) shapeCasts_S1_S1x1x1) inpos_S1x1x1_p0_0_0)

/-- The least column of the largest of the last group. -/
def nvtR (X : FVec F S8x1696 .f32) : IVec S1x1 32 :=
  broadcast S1x1 (extractAt ![0, 0, 0] (shapeCast S1x1x1 (multiReductionI .minsi [1, 2] S1 (shapeCast S1x8x1696
    (select (cmpf .oeq X (broadcastTo S8x1696 (nbtR X) broadcasts_S1x1_S8x1696)) (addi (iota .tc S8x1696 32 [1] iota_S8x1696_d1_w32) (broadcast S8x1696 98304#32))
      (broadcast S8x1696 1073741824#32) : IVec S8x1696 32) shapeCasts_S8x1696_S1x8x1696)
    2147483647#32 reduces_S1x8x1696_S1 rfl) shapeCasts_S1_S1x1x1) inpos_S1x1x1_p0_0_0)

/-- The refilled entry. -/
def nbR (Xd : FVec F S8x4096 .f32) (Xt : FVec F S8x1696 .f32) : FVec F S1x1 .f32 := maximumf (nbdR Xd) (nbtR Xt)

/-- The refilled entry's place. -/
def nfR (Xd : FVec F S8x4096 .f32) (Xt : FVec F S8x1696 .f32) (fm : IVec S1x1 32) : IVec S1x1 32 :=
  addi (muli (kbR fm) (broadcast S1x1 100000#32)) (select (cmpf .ogt (nbtR Xt) (nbdR Xd)) (nvtR Xt) (nvdR Xd (sR fm)))

section
variable (c : Dev nD) (M1 : Memref sig .tc .vmem S32x100000 .f32) (f1 : Bf (F := F) c M1)
  (b : Nat) (hb : b < 4) (prm : FVec F S8x1 .f32)

/-- The table of maxima after a round. -/
def stepA (A : FVec F S8x3200 .f32) (P : IVec S8x3200 32) : FVec F S8x3200 .f32 :=
  shapeCast S8x3200 (select (cmpi .eq P (broadcastTo S8x3200 (fmR A P) broadcasts_S1x1_S8x3200))
    (broadcastTo S8x3200 (shapeCast S1x1 (nbR (xmdR c M1 f1 b hb prm (mxR A) (fmR A P)) (xmtR c M1 f1 b hb prm (mxR A) (fmR A P))) shapeCasts_S1x1_S1x1) broadcasts_S1x1_S8x3200)
    A) shapeCasts_S8x3200_S8x3200

/-- The table of places after a round. -/
def stepF (A : FVec F S8x3200 .f32) (P : IVec S8x3200 32) : IVec S8x3200 32 :=
  shapeCast S8x3200 (select (cmpi .eq P (broadcastTo S8x3200 (fmR A P) broadcasts_S1x1_S8x3200))
    (broadcastTo S8x3200 (shapeCast S1x1 (nfR (xmdR c M1 f1 b hb prm (mxR A) (fmR A P)) (xmtR c M1 f1 b hb prm (mxR A) (fmR A P)) (fmR A P)) shapeCasts_S1x1_S1x1) broadcasts_S1x1_S8x3200)
    P) shapeCasts_S8x3200_S8x3200

end

/-! ## The results -/

/-- The scores taken in the first `n` rounds, in their lanes. -/
def mvecR (mx : Nat → FVec F S1x1 .f32) : Nat → FVec F S1x8 .f32
  | 0 => broadcast S1x8 (Scalar.ofBits .f32 0x00000000#32)
  | n + 1 => select (cmpi .eq (iota .tc S1x8 32 [1] iota_S1x8_d1_w32) (broadcast S1x8 (BitVec.ofNat 32 n)))
      (broadcastTo S1x8 (shapeCast S1x1 (mx n) shapeCasts_S1x1_S1x1) broadcasts_S1x1_S1x8) (mvecR mx n)

/-- The places taken in the first `n` rounds, in their lanes. -/
def fvecR (fm : Nat → IVec S1x1 32) : Nat → IVec S1x8 32
  | 0 => broadcast S1x8 0#32
  | n + 1 => select (cmpi .eq (iota .tc S1x8 32 [1] iota_S1x8_d1_w32) (broadcast S1x8 (BitVec.ofNat 32 n)))
      (broadcastTo S1x8 (shapeCast S1x1 (fm n) shapeCasts_S1x1_S1x1) broadcasts_S1x1_S1x8) (fvecR fm n)

section
variable (fv : IVec S1x8 32)

/-- The tokens of the places. -/
def vvecR : IVec S1x8 32 := fmodV broadcasts_S1x8_S1x8 100000#32 fv
/-- The beams of the places. -/
def bvecR : IVec S1x8 32 := fdivV 100000#32 fv
/-- One at each place's beam, zero elsewhere. -/
def ohR : FVec F S8x8 .f32 :=
  sitofp .f32 (extui 32 (cmpi .eq (iota .tc S8x8 32 [0] iota_S8x8_d0_w32)
    (broadcastTo S8x8 (shapeCast S1x8 (bvecR fv) shapeCasts_S1x8_S1x8) broadcasts_S1x8_S8x8)) natLt_1_32)

/-- The histories of the beams taken. -/
def ogR (c : Dev nD) (M4 : Memref sig .tc .vmem S4x50x8 .i32) (f4 : Bf (F := F) c M4) (b : Nat) (hb : b < 4) : IVec S1x50x8 32 :=
  shapeCast S1x50x8 (fptosi 32 (matmul dot_S50x8_S8x8_S50x8_1_0_0_1_n_n (some .fp32)
    (sitofp .f32 (shapeCast S50x8 (View.readAt (Elt F) M4.view (Rect.unit (s := S4x50x8) ![b, 0, 0] S1x50x8.size (inb4 b hb)).toLoadRect f4) shapeCasts_S1x50x8_S50x8 : IVec S50x8 32) : FVec F S50x8 .f32)
    (ohR fv) (constant S50x8 .f32 0x00000000#32))) shapeCasts_S50x8_S1x50x8

/-- The flags of the beams taken. -/
def egR (en : FVec F S8x1 .f32) : FVec F S1x8 .f32 :=
  select (cmpi .eq (vvecR fv) (broadcast S1x8 2#32)) (broadcast S1x8 (Scalar.ofBits .f32 0x3F800000#32))
    (shapeCast S1x8 (multiReduction .add [0] S8 (mulf (broadcastTo S8x8 (shapeCast S8x1 en shapeCasts_S8x1_S8x1) broadcasts_S8x1_S8x8) (ohR fv))
      0x00000000#32 reduces_S8x8_S8 (.inl rfl) rfl) shapeCasts_S8_S1x8)

end

end Cert.Proof.KernelIdeal

end
-- ==== Proof.Wd.lean ====
/-
  The kernel's word arithmetic on small natural numbers, and its folded maxima and minima.
-/
module

public import proofs.«01_k».proof.Proof.Words
public import Idealize.ShloMosaic.Lib.WordArith
public import Idealize.ShloMosaic.Lib.Pointwise

@[expose] public section

noncomputable section

namespace Cert.Proof

open Idealize.ShloMosaic
open Idealize.ShloMosaic.WordArith (toNat_ofNat_of_lt toInt_ofNat_small toNat_minsi_of_lt)

/-- The word of a natural number. -/
abbrev wd (n : Nat) : BitVec 32 := BitVec.ofNat 32 n

/-- Small numbers with the same word are equal. -/
theorem wd_inj {a b : Nat} (ha : a < 2 ^ 31) (hb : b < 2 ^ 31) : wd a = wd b ↔ a = b := by
  constructor
  · intro h
    have := congrArg BitVec.toNat h
    rw [toNat_ofNat_of_lt a (by omega), toNat_ofNat_of_lt b (by omega)] at this
    exact this
  · rintro rfl; rfl

/-- The rounded-down quotient of small words. -/
theorem fdivN {c n : Nat} (hc : 0 < c) (hc' : c < 2 ^ 31) (hn : n < 2 ^ 31) : fdivW (wd c) (wd n) = wd (n / c) := by
  have h1 := toInt_ofNat_small c hc'
  have h2 := toInt_ofNat_small n hn
  have hq : n / c < 2 ^ 31 := lt_of_le_of_lt (Nat.div_le_self n c) hn
  rw [← BitVec.toInt_inj, fdivW_toInt (by rw [h1]; exact_mod_cast hc) (by rw [h2]; positivity), h1, h2, toInt_ofNat_small _ hq]
  push_cast; rfl

/-- The remainder of small words. -/
theorem fmodN {c n : Nat} (hc : 0 < c) (hc' : c < 2 ^ 31) (hn : n < 2 ^ 31) : fmodW (wd c) (wd n) = wd (n % c) := by
  have h1 := toInt_ofNat_small c hc'
  have h2 := toInt_ofNat_small n hn
  have hq : n % c < 2 ^ 31 := lt_of_le_of_lt (Nat.mod_le n c) hn
  rw [← BitVec.toInt_inj, fmodW_toInt (by rw [h1]; exact_mod_cast hc), h1, h2, toInt_ofNat_small _ hq]
  push_cast; rfl

/-- The test for equality of small words. -/
theorem cmpi_eqN {a b : Nat} (ha : a < 2 ^ 31) (hb : b < 2 ^ 31) : IntOp.cmpi .eq (wd a) (wd b) = BitVec.ofBool (decide (a = b)) := by
  unfold IntOp.cmpi
  congr 1
  rw [Bool.eq_iff_iff, beq_iff_eq, decide_eq_true_iff, wd_inj ha hb]

/-- The test for greater of small words. -/
theorem cmpi_sgtN {a b : Nat} (ha : a < 2 ^ 31) (hb : b < 2 ^ 31) : IntOp.cmpi .sgt (wd a) (wd b) = BitVec.ofBool (decide (b < a)) := by
  unfold IntOp.cmpi
  simp only [BitVec.slt_eq_decide, toInt_ofNat_small a ha, toInt_ofNat_small b hb, Nat.cast_lt]

/-- The difference of words. -/
theorem subiN {a b : Nat} (hb : b ≤ a) : IntOp.subi (wd a) (wd b) = wd (a - b) := by
  unfold IntOp.subi
  rw [sub_eq_iff_eq_add, ← BitVec.ofNat_add, Nat.sub_add_cancel hb]

/-- The sum of words. -/
theorem addiN (a b : Nat) : IntOp.addi (wd a) (wd b) = wd (a + b) := BitVec.ofNat_add _ _ |>.symm

/-- The product of words. -/
theorem muliN (a b : Nat) : IntOp.muli (wd a) (wd b) = wd (a * b) := BitVec.ofNat_mul _ _ |>.symm

/-- The lesser of small words. -/
theorem minsiN {a b : Nat} (ha : a < 2 ^ 31) (hb : b < 2 ^ 31) : IntOp.minsi (wd a) (wd b) = wd (min a b) := by
  rw [← BitVec.toNat_inj, toNat_minsi_of_lt _ _ (by rw [toNat_ofNat_of_lt a (by omega)]; exact ha) (by rw [toNat_ofNat_of_lt b (by omega)]; exact hb),
    toNat_ofNat_of_lt a (by omega), toNat_ofNat_of_lt b (by omega), toNat_ofNat_of_lt _ (by omega)]

/-- A bit turned over. -/
theorem xori_one (b : Bool) : IntOp.xori (BitVec.ofBool b) 1#1 = BitVec.ofBool (!b) := by cases b <;> rfl

/-- The folded minimum of small words is their least, or the fold's start. -/
theorem fold_minsi {ι : Type} [DecidableEq ι] (s : Finset ι) (f : ι → BitVec 32) (h : ι → Nat) (hf : ∀ x ∈ s, f x = wd (h x) ∧ h x < 2 ^ 31) :
    ∃ m, Finset.fold IntOp.minsi 2147483647#32 f s = wd m ∧ m < 2 ^ 31 ∧ (∀ x ∈ s, m ≤ h x) ∧ (m = 2147483647 ∨ ∃ x ∈ s, h x = m) := by
  induction s using Finset.induction_on with
  | empty => exact ⟨2147483647, by simp, by norm_num, by simp, Or.inl rfl⟩
  | insert a s ha ih =>
    obtain ⟨m, h1, h2, h3, h4⟩ := ih fun x hx => hf x (Finset.mem_insert_of_mem hx)
    obtain ⟨e1, e2⟩ := hf a (Finset.mem_insert_self a s)
    refine ⟨min (h a) m, by rw [Finset.fold_insert ha, h1, e1, minsiN e2 h2], by omega, fun x hx => ?_, ?_⟩
    · rw [Finset.mem_insert] at hx
      rcases hx with rfl | hx
      · exact min_le_left _ _
      · exact (min_le_right _ _).trans (h3 x hx)
    · rcases le_total (h a) m with hl | hl
      · exact Or.inr ⟨a, Finset.mem_insert_self a s, (min_eq_left hl).symm⟩
      · rw [min_eq_right hl]
        rcases h4 with h4 | ⟨x, hx, h4⟩
        · exact Or.inl h4
        · exact Or.inr ⟨x, Finset.mem_insert_of_mem hx, h4⟩

/-- The folded maximum from minus infinity. -/
theorem fold_max {ι : Type} [DecidableEq ι] (s : Finset ι) (f : ι → EReal) :
    (∀ x ∈ s, f x ≤ Finset.fold max ⊥ f s) ∧ (Finset.fold max ⊥ f s = ⊥ ∨ ∃ x ∈ s, f x = Finset.fold max ⊥ f s) := by
  induction s using Finset.induction_on with
  | empty => exact ⟨by simp, Or.inl (by simp)⟩
  | insert a s ha ih =>
    obtain ⟨h3, h4⟩ := ih
    rw [Finset.fold_insert ha]
    refine ⟨fun x hx => ?_, ?_⟩
    · rw [Finset.mem_insert] at hx
      rcases hx with rfl | hx
      · exact le_max_left _ _
      · exact (h3 x hx).trans (le_max_right _ _)
    · rcases le_total (f a) (Finset.fold max ⊥ f s) with hl | hl
      · rw [max_eq_right hl]
        rcases h4 with h4 | ⟨x, hx, h4⟩
        · exact Or.inl h4
        · exact Or.inr ⟨x, Finset.mem_insert_of_mem hx, h4⟩
      · exact Or.inr ⟨a, Finset.mem_insert_self a s, (max_eq_left hl).symm⟩

/-- The word of minus infinity. -/
theorem ofBits_ninf : Ideal.ofBits .f32 4286578688#32 = ⊥ := by simp [Ideal.ofBits, Ideal.ieee]

/-- One half lies between zero and one. -/
theorem half_pos : (0 : EReal) < Ideal.ofBits .f32 1056964608#32 ∧ Ideal.ofBits .f32 1056964608#32 < 1 := by
  have : Ideal.ofBits .f32 1056964608#32 = ((1 / 2 : ℝ) : EReal) := by
    simp [Ideal.ofBits, Ideal.ieee, -EReal.coe_mul]; norm_num
  rw [this]
  constructor
  · exact_mod_cast (by norm_num : (0 : ℝ) < 1 / 2)
  · exact_mod_cast (by norm_num : (1 / 2 : ℝ) < 1)

end Cert.Proof

end
-- ==== Proof.Beam.lean ====
/-
  The mathematics of the selection: a table that keeps, for each class of candidates, the best candidate of the class not
  yet taken, yields the best eight candidates in order.
-/
module

public import Idealize.ShloMosaic.Lib.Tactic
public import Idealize.ShloMosaic.PureOps.Ideal

@[expose] public section

noncomputable section

namespace Cert.Proof.Beam

/-- The score of candidate `n` (beam `n / 100000`, token `n % 100000`). -/
def sc (x : Nat → Nat → EReal) (pr : Nat → EReal) (en : Nat → Prop) [DecidablePred en] (n : Nat) : EReal :=
  if en (n / 100000) then (if n % 100000 = 2 then pr (n / 100000) else ⊥) else x (n / 100000) (n % 100000) + pr (n / 100000)

/-- `n` comes before `m`: a higher score, or the same score and a lower number. -/
def beats (p : Nat → EReal) (n m : Nat) : Prop := p m < p n ∨ (p m = p n ∧ n < m)

/-- Candidate `m` belongs to the table's entry at row `i` and column `j`. -/
def inE (i j m : Nat) : Prop := m / 100000 = i ∧ (m % 100000) / 4096 * 128 + (m % 100000) % 128 = j

/-- Coming before is transitive. -/
theorem beats_trans {p : Nat → EReal} {a b c : Nat} (h : beats p a b) (h' : beats p b c) : beats p a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- Of two candidates at most one comes before the other. -/
theorem beats_asymm {p : Nat → EReal} {a b : Nat} (h : beats p a b) : ¬ beats p b a := by
  rintro (h' | ⟨h', k'⟩) <;> rcases h with h | ⟨h, k⟩
  · exact absurd (h.trans h') (lt_irrefl _)
  · exact absurd h' (h ▸ lt_irrefl _)
  · exact absurd h (h' ▸ lt_irrefl _)
  · omega

section
variable (p : Nat → EReal) (en : Nat → Prop) (A : Fin 8 → Fin 3200 → EReal) (φ : Fin 8 → Fin 3200 → Nat) (Q : Finset Nat)

/-- An entry that holds the best candidate of its class not yet taken. -/
structure Live (i : Fin 8) (j : Fin 3200) : Prop where
  val : A i j = p (φ i j)
  lt : φ i j < 800000
  cls : inE i j (φ i j)
  fresh : φ i j ∉ Q
  pos : ⊥ < p (φ i j)
  best : ∀ m < 800000, inE i j m → m ∉ Q → m = φ i j ∨ beats p (φ i j) m

/-- An entry of an ended beam with nothing left to take. -/
structure Dead (i : Fin 8) (j : Fin 3200) : Prop where
  en : en i
  val : A i j = ⊥
  lt : φ i j < 800000
  bot : p (φ i j) = ⊥
  all : ∀ m < 800000, inE i j m → ⊥ < p m → m ∈ Q

/-- The table after the candidates `Q` were taken. -/
structure Inv : Prop where
  top : ∀ q ∈ Q, q < 800000 ∧ ⊥ < p q ∧ ∀ m < 800000, m ∉ Q → beats p q m
  ent : ∀ i j, Live p A φ Q i j ∨ Dead p en A φ Q i j

end

section
variable {p : Nat → EReal} {en : Nat → Prop} {A : Fin 8 → Fin 3200 → EReal} {φ : Fin 8 → Fin 3200 → Nat} {Q : Finset Nat}

/-- Every candidate belongs to an entry of the table. -/
theorem exists_entry (m : Nat) (hm : m < 800000) : ∃ (i : Fin 8) (j : Fin 3200), inE i j m :=
  ⟨⟨m / 100000, by omega⟩, ⟨(m % 100000) / 4096 * 128 + (m % 100000) % 128, by omega⟩, rfl, rfl⟩

/-- A candidate belongs to one entry only. -/
theorem entry_unique {i i' : Fin 8} {j j' : Fin 3200} {m : Nat} (h : inE i j m) (h' : inE i' j' m) : i = i' ∧ j = j' :=
  ⟨Fin.ext (h.1.symm.trans h'.1), Fin.ext (h.2.symm.trans h'.2)⟩

/-- The largest entry's least place is the best candidate not yet taken, and no other entry has that place. -/
theorem pick (h : Inv p en A φ Q) (hQ : Q.card < 8) (hp : ∀ k < 8, ⊥ < p (k * 100000 + 2)) {mx : EReal} {n : Nat}
    (hmx : ∀ i j, A i j ≤ mx) (hn : ∃ i j, A i j = mx ∧ φ i j = n) (hmin : ∀ i j, A i j = mx → n ≤ φ i j) :
    (n < 800000 ∧ n ∉ Q ∧ p n = mx ∧ ⊥ < p n) ∧ (∀ m < 800000, m ∉ Q → m ≠ n → beats p n m) ∧
      (∀ (i : Fin 8) (j : Fin 3200), φ i j = n ↔ inE i j n) ∧ ∀ (i : Fin 8) (j : Fin 3200), inE i j n → Live p A φ Q i j := by
  have hex : ∃ k < 8, k * 100000 + 2 ∉ Q := by
    by_contra hc
    push Not at hc
    have : (Finset.range 8).image (fun k => k * 100000 + 2) ⊆ Q := by
      intro q hq
      rw [Finset.mem_image] at hq
      obtain ⟨k, hk, rfl⟩ := hq
      exact hc k (Finset.mem_range.mp hk)
    have hc' := Finset.card_le_card this
    rw [Finset.card_image_of_injective _ (fun a b hab => by simpa using hab), Finset.card_range] at hc'
    omega
  obtain ⟨k, hk, hkQ⟩ := hex
  have hpos : ⊥ < mx := by
    obtain ⟨i, j, hij⟩ := exists_entry (k * 100000 + 2) (by omega)
    rcases h.ent i j with hl | hd
    · exact (hl.val ▸ hl.pos).trans_le (hmx i j)
    · exact absurd (hd.all _ (by omega) hij (hp k hk)) hkQ
  obtain ⟨i1, j1, hA1, hφ1⟩ := hn
  have hl1 : Live p A φ Q i1 j1 := (h.ent i1 j1).resolve_right fun hd => by
    rw [hd.val] at hA1; exact absurd hA1 hpos.ne
  have hpn : p n = mx := by rw [← hφ1, ← hl1.val, hA1]
  have hcls1 : inE i1 j1 n := hφ1 ▸ hl1.cls
  have hbest : ∀ m < 800000, m ∉ Q → m ≠ n → beats p n m := by
    intro m hm hmQ hmn
    by_cases hb : p m = ⊥
    · exact Or.inl (by rw [hb, hpn]; exact hpos)
    · obtain ⟨i, j, hij⟩ := exists_entry m hm
      have hl : Live p A φ Q i j := (h.ent i j).resolve_right fun hd =>
        hmQ (hd.all m hm hij (bot_lt_iff_ne_bot.mpr hb))
      have hge : φ i j = n ∨ beats p n (φ i j) := by
        have h1 : p (φ i j) ≤ p n := by rw [hpn, ← hl.val]; exact hmx i j
        rcases h1.lt_or_eq with h1 | h1
        · exact Or.inr (Or.inl h1)
        · have := hmin i j (by rw [hl.val, h1, hpn])
          rcases this.eq_or_lt with h2 | h2
          · exact Or.inl h2.symm
          · exact Or.inr (Or.inr ⟨h1, h2⟩)
      rcases hl.best m hm hij hmQ with rfl | hbm
      · exact hge.resolve_left hmn
      · rcases hge with hge | hge
        · rw [hge] at hbm; exact hbm
        · exact beats_trans hge hbm
  refine ⟨⟨hφ1 ▸ hl1.lt, hφ1 ▸ hl1.fresh, hpn, hpn ▸ hpos⟩, hbest, fun i j => ⟨fun e => ?_, fun e => ?_⟩, fun i j e => ?_⟩
  · rcases h.ent i j with hl | hd
    · exact e ▸ hl.cls
    · have := hd.bot; rw [e, hpn] at this; exact absurd this hpos.ne'
  · obtain ⟨rfl, rfl⟩ := entry_unique e hcls1
    exact hφ1
  · obtain ⟨rfl, rfl⟩ := entry_unique e hcls1
    exact hl1

/-- A class of an unended beam has more than eight candidates, so one is left. -/
theorem exists_left (hQ : Q.card < 8) (n : Nat) (hn : n < 800000) : ∃ v < 100000, v / 4096 = (n % 100000) / 4096 ∧
    v % 128 = (n % 100000) % 128 ∧ n / 100000 * 100000 + v ∉ insert n Q := by
  let f : Nat → Nat := fun t => n / 100000 * 100000 + ((n % 100000) / 4096 * 4096 + (n % 100000) % 128 + 128 * t)
  have hc : (insert n Q).card < ((Finset.range 13).image f).card := by
    rw [Finset.card_image_of_injective _ (fun a b hab => by simp only [f] at hab; omega), Finset.card_range]
    have := Finset.card_insert_le n Q
    omega
  obtain ⟨m, hm, hmQ⟩ := Finset.exists_mem_notMem_of_card_lt_card hc
  rw [Finset.mem_image] at hm
  obtain ⟨t, ht, rfl⟩ := hm
  rw [Finset.mem_range] at ht
  exact ⟨_, by omega, by omega, by omega, hmQ⟩

/-- One round keeps the table's meaning: the entry taken is refilled with the best one left of its class. -/
theorem step (h : Inv p en A φ Q) (hQ : Q.card < 8) (hp : ∀ k < 8, ⊥ < p (k * 100000 + 2)) {mx : EReal} {n : Nat}
    (hmx : ∀ i j, A i j ≤ mx) (hn : ∃ i j, A i j = mx ∧ φ i j = n) (hmin : ∀ i j, A i j = mx → n ≤ φ i j)
    (hpos : ∀ m < 800000, ¬ en (m / 100000) → ⊥ < p m) (hen : ∀ m < 800000, en (m / 100000) → m % 100000 ≠ 2 → p m = ⊥)
    {A' : Fin 8 → Fin 3200 → EReal} {φ' : Fin 8 → Fin 3200 → Nat} {nb : EReal} {nv : Nat}
    (hA' : ∀ i j, A' i j = if φ i j = n then nb else A i j)
    (hφ' : ∀ i j, φ' i j = if φ i j = n then n / 100000 * 100000 + nv else φ i j)
    (hlive : ¬ en (n / 100000) → (∃ v < 100000, v / 4096 = (n % 100000) / 4096 ∧ v % 128 = (n % 100000) % 128 ∧ beats p n (n / 100000 * 100000 + v)) →
      nv < 100000 ∧ nv / 4096 = (n % 100000) / 4096 ∧ nv % 128 = (n % 100000) % 128 ∧ beats p n (n / 100000 * 100000 + nv) ∧
        nb = p (n / 100000 * 100000 + nv) ∧
        ∀ v < 100000, v / 4096 = (n % 100000) / 4096 → v % 128 = (n % 100000) % 128 → beats p n (n / 100000 * 100000 + v) →
          v = nv ∨ beats p (n / 100000 * 100000 + nv) (n / 100000 * 100000 + v))
    (hdead : en (n / 100000) → n % 100000 = 2 → nb = ⊥ ∧ nv < 100000 ∧ nv ≠ 2) :
    Inv p en A' φ' (insert n Q) := by
  obtain ⟨⟨hn8, hnQ, hpn, hpnpos⟩, hbest, hpop, hlv⟩ := pick h hQ hp hmx hn hmin
  have hbn : ¬ beats p n n := fun hb => beats_asymm hb hb
  refine ⟨fun q hq => ?_, fun i j => ?_⟩
  · rw [Finset.mem_insert] at hq
    rcases hq with rfl | hq
    · exact ⟨hn8, hpnpos, fun m hm hmQ => by
        rw [Finset.mem_insert, not_or] at hmQ; exact hbest m hm hmQ.2 hmQ.1⟩
    · obtain ⟨h1, h2, h3⟩ := h.top q hq
      exact ⟨h1, h2, fun m hm hmQ => by rw [Finset.mem_insert, not_or] at hmQ; exact h3 m hm hmQ.2⟩
  · by_cases hij : φ i j = n
    · have hcls := (hpop i j).mp hij
      have hA := hA' i j
      have hφ := hφ' i j
      rw [if_pos hij] at hA hφ
      have kept : ∀ v < 100000, v / 4096 = (n % 100000) / 4096 → v % 128 = (n % 100000) % 128 →
          (n / 100000 * 100000 + v ∉ insert n Q ↔ beats p n (n / 100000 * 100000 + v)) := by
        intro v hv h1 h2
        constructor
        · intro hm
          rw [Finset.mem_insert, not_or] at hm
          exact hbest _ (by omega) hm.2 hm.1
        · intro hb hm
          rw [Finset.mem_insert] at hm
          rcases hm with hm | hm
          · rw [hm] at hb; exact hbn hb
          · exact beats_asymm hb ((h.top _ hm).2.2 n hn8 hnQ)
      by_cases he : en (n / 100000)
      · right
        have hv2 : n % 100000 = 2 := by
          by_contra hne
          exact absurd (hen n hn8 he hne) hpnpos.ne'
        obtain ⟨h1, h2, h3⟩ := hdead he hv2
        refine ⟨hcls.1 ▸ he, by rw [hA, h1], by rw [hφ]; omega, ?_, fun m hm hmij hpm => ?_⟩
        · rw [hφ]
          exact hen _ (by omega) (by rwa [show (n / 100000 * 100000 + nv) / 100000 = n / 100000 by omega]) (by omega)
        · rw [Finset.mem_insert]
          left
          have hk : m / 100000 = n / 100000 := hmij.1.trans hcls.1.symm
          have : m % 100000 = 2 := by
            by_contra hne
            exact absurd (hen m hm (hk ▸ he) hne) hpm.ne'
          omega
      · left
        obtain ⟨v, hv, hv1, hv2, hvQ⟩ := exists_left hQ n hn8
        obtain ⟨g1, g2, g3, g4, g5, g6⟩ := hlive he ⟨v, hv, hv1, hv2, (kept v hv hv1 hv2).mp hvQ⟩
        have hc := hcls.2
        have hc1 := hcls.1
        refine ⟨by rw [hA, hφ, g5], by rw [hφ]; omega, ?_, ?_, ?_, ?_⟩
        · rw [hφ]
          refine ⟨by omega, ?_⟩
          rw [show (n / 100000 * 100000 + nv) % 100000 = nv by omega, g2, g3]
          exact hc
        · rw [hφ]; exact (kept nv g1 g2 g3).mpr g4
        · rw [hφ]; exact hpos _ (by omega) (by rwa [show (n / 100000 * 100000 + nv) / 100000 = n / 100000 by omega])
        · intro m hm hmij hmQ
          rw [hφ]
          obtain ⟨m1, m2⟩ := hmij
          have em : n / 100000 * 100000 + m % 100000 = m := by omega
          have q1 : m % 100000 / 4096 = (n % 100000) / 4096 := by omega
          have q2 : m % 100000 % 128 = (n % 100000) % 128 := by omega
          have := g6 (m % 100000) (by omega) q1 q2 ((kept _ (by omega) q1 q2).mp (by rwa [em]))
          rw [em] at this
          rcases this with h | h
          · left; omega
          · right; exact h
    · have hA := hA' i j
      have hφ := hφ' i j
      rw [if_neg hij] at hA hφ
      rcases h.ent i j with hl | hd
      · left
        refine ⟨by rw [hA, hφ, hl.val], hφ ▸ hl.lt, hφ ▸ hl.cls, ?_, hφ ▸ hl.pos, fun m hm hmij hmQ => ?_⟩
        · rw [hφ, Finset.mem_insert, not_or]; exact ⟨hij, hl.fresh⟩
        · rw [hφ]
          rw [Finset.mem_insert, not_or] at hmQ
          exact hl.best m hm hmij hmQ.2
      · right
        exact ⟨hd.en, by rw [hA, hd.val], hφ ▸ hd.lt, by rw [hφ, hd.bot], fun m hm hmij hpm =>
          Finset.mem_insert_of_mem (hd.all m hm hmij hpm)⟩

end

/-- The candidates taken in eight rounds are the best eight, in order. -/
structure Best (p : Nat → EReal) (n : Nat → Nat) : Prop where
  lt : ∀ r < 8, n r < 800000
  inj : ∀ r < 8, ∀ r' < 8, n r = n r' → r = r'
  ord : ∀ r r', r < r' → r' < 8 → beats p (n r) (n r')
  dom : ∀ r < 8, ∀ m < 800000, (∀ r' < 8, n r' ≠ m) → beats p (n r) m

/-- Eight rounds from a table that has its meaning. -/
theorem rounds {p : Nat → EReal} {en : Nat → Prop} (A : Nat → Fin 8 → Fin 3200 → EReal) (φ : Nat → Fin 8 → Fin 3200 → Nat)
    (mx : Nat → EReal) (n : Nat → Nat) (h0 : Inv p en (A 0) (φ 0) ∅) (hp : ∀ k < 8, ⊥ < p (k * 100000 + 2))
    (hmx : ∀ r < 8, ∀ Q, Inv p en (A r) (φ r) Q → (∀ i j, A r i j ≤ mx r) ∧ (∃ i j, A r i j = mx r ∧ φ r i j = n r) ∧ ∀ i j, A r i j = mx r → n r ≤ φ r i j)
    (hstep : ∀ r < 8, ∀ Q, Inv p en (A r) (φ r) Q → Q.card < 8 → n r < 800000 → p (n r) = mx r → ⊥ < mx r → Inv p en (A (r + 1)) (φ (r + 1)) (insert (n r) Q)) :
    Best p n ∧ ∀ r < 8, mx r = p (n r) := by
  have key : ∀ r ≤ 8, Inv p en (A r) (φ r) ((Finset.range r).image n) := by
    intro r hr
    induction r with
    | zero => simpa using h0
    | succ r ih =>
      have hI := ih (by omega)
      have hc : ((Finset.range r).image n).card < 8 := by
        have := Finset.card_image_le (s := Finset.range r) (f := n)
        rw [Finset.card_range] at this; omega
      obtain ⟨a, b, d⟩ := hmx r (by omega) _ hI
      have hpk := (pick hI hc hp a b d).1
      rw [Finset.range_add_one, Finset.image_insert]
      exact hstep r (by omega) _ hI hc hpk.1 hpk.2.2.1 (hpk.2.2.1 ▸ hpk.2.2.2)
  have pk : ∀ r < 8, (n r < 800000 ∧ n r ∉ (Finset.range r).image n ∧ p (n r) = mx r ∧ ⊥ < p (n r)) ∧
      ∀ m < 800000, m ∉ (Finset.range r).image n → m ≠ n r → beats p (n r) m := by
    intro r hr
    have hI := key r hr.le
    have hc : ((Finset.range r).image n).card < 8 := by
      have := Finset.card_image_le (s := Finset.range r) (f := n)
      rw [Finset.card_range] at this; omega
    obtain ⟨a, b, d⟩ := hmx r hr _ hI
    have hpk := pick hI hc hp a b d
    exact ⟨hpk.1, hpk.2.1⟩
  have hne : ∀ r r', r < r' → r' < 8 → n r ≠ n r' := by
    intro r r' h h' e
    exact (pk r' h').1.2.1 (e ▸ Finset.mem_image_of_mem n (Finset.mem_range.mpr h))
  refine ⟨⟨fun r hr => (pk r hr).1.1, fun r hr r' hr' e => ?_, fun r r' h h' => ?_, fun r hr m hm hne' => ?_⟩, fun r hr => (pk r hr).1.2.2.1.symm⟩
  · rcases lt_trichotomy r r' with h | h | h
    · exact absurd e (hne r r' h hr')
    · exact h
    · exact absurd e.symm (hne r' r h hr)
  · refine (pk r (by omega)).2 _ (pk r' h').1.1 ?_ (hne r r' h h').symm
    rw [Finset.mem_image]
    rintro ⟨t, ht, e⟩
    rw [Finset.mem_range] at ht
    exact hne t r' (by omega) h' e
  · refine (pk r hr).2 m hm ?_ (fun e => hne' r hr e.symm)
    rw [Finset.mem_image]
    rintro ⟨t, ht, e⟩
    rw [Finset.mem_range] at ht
    exact hne' t (by omega) e

end Cert.Proof.Beam

end
-- ==== Proof.Tiles.lean ====
/-
  The two tables the rounds begin with, read at an entry: each holds the largest score of its column of a group, and the
  place it was first met at.
-/
module

public import proofs.«01_k».proof.Proof.Spec
public import proofs.«01_k».proof.Proof.Wd
public import proofs.«01_k».proof.Proof.Beam
public import Idealize.ShloMosaic.Lib.Pointwise
public import Idealize.ShloMosaic.Lib.WholeRead

@[expose] public section

set_option maxRecDepth 16384

noncomputable section

namespace Cert.Proof.KernelIdeal

open _root_.Cert.KernelIdeal _root_.Cert.KernelIdeal.Gen _root_.Cert.KernelIdeal.Facts

open Idealize.ShloMosaic
open Cert.Proof.Beam (beats)

/-- The scores of batch row `b` of four, by beam and token. -/
def xN (X1 : S32x100000.Idx → EReal) (b k v : Nat) : EReal :=
  X1 (ix2 ⟨(8 * b + k) % 32, Nat.mod_lt _ (by norm_num)⟩ ⟨v % 100000, Nat.mod_lt _ (by norm_num)⟩)

/-- A value for each beam of batch row `b` of four. -/
def pN (X : S4x8x1.Idx → EReal) (b k : Nat) : EReal :=
  X (ix3 ⟨b % 4, Nat.mod_lt _ (by norm_num)⟩ ⟨k % 8, Nat.mod_lt _ (by norm_num)⟩ 0)

/-- Whether a beam has ended. -/
def eN (X3 : S4x8x1.Idx → EReal) (b k : Nat) : Prop := Ideal.ofBits .f32 1056964608#32 < pN X3 b k

section
variable (c : Dev nD) (M1 : Memref sig .tc .vmem S32x100000 .f32) (h1 : M1.IsWhole) (X1 : S32x100000.Idx → Elt Ideal .f32)
  (M2 M3 : Memref sig .tc .vmem S4x8x1 .f32) (h2 : M2.IsWhole) (h3 : M3.IsWhole) (X2 X3 : S4x8x1.Idx → Elt Ideal .f32)
  (MA : Memref sig .tc .vmem S8x3200 .f32) (MF : Memref sig .tc .vmem S8x3200 .i32)
  (b : Nat) (hb : b < 4)

include hb in
/-- A load of rows `8 b` on and columns `o` on. -/
theorem load1 (o w : Nat) (inb) (h : o + w ≤ 100000) (i : Fin 8) (l : Fin w) :
    View.readAt (Elt Ideal) M1.view (Rect.unit (s := S32x100000) ![8 * b, o] ![8, w] inb).toLoadRect (h1.unread X1) (ix2 i l)
      = xN X1 b i (o + l) := by
  rw [h1.readAt_unread]
  unfold xN
  congr 1
  have hl := l.isLt
  have hi := i.isLt
  funext a
  fin_cases a
  · apply Fin.ext
    show 8 * b + 1 * i.val = (8 * b + i.val) % 32
    omega
  · apply Fin.ext
    show o + 1 * l.val = (o + l.val) % 100000
    omega

/-- An entry of a tile of scores. -/
theorem tileS_apply (o : Nat) (ho : o + 128 ≤ 100000) (i : Fin 8) (l : Fin 128) :
    tileS c M1 (h1.unread X1) b hb o ho (ix2 i l) = xN X1 b i (o + l) := by
  pointwise [tileS]
  exact load1 M1 h1 X1 b hb o 128 _ ho i l

/-- A beam's score, or flag, as loaded. -/
theorem prS_apply (M : Memref sig .tc .vmem S4x8x1 .f32) (h : M.IsWhole) (X : S4x8x1.Idx → Elt Ideal .f32) (i : Fin 8) :
    prS c M (h.unread X) b hb (ix2 i 0) = pN X b i := by
  pointwise [prS]
  rw [h.readAt_unread]
  unfold pN
  congr 1
  have hi := i.isLt
  funext a
  fin_cases a
  · apply Fin.ext
    show b + 1 * 0 = b % 4
    omega
  · apply Fin.ext
    show 0 + 1 * i.val = i.val % 8
    omega
  · rfl

/-- Whether a beam has ended, as the kernel tests it. -/
theorem enB_apply (i : Fin 8) : enB c M3 (h3.unread X3) b hb (ix2 i 0) = BitVec.ofBool (@decide (eN X3 b i) (Classical.dec _)) := by
  pointwise [enB]
  rw [prS_apply c b hb M3 h3 X3 i]
  congr 1
  exact decide_eq_decide.mpr Iff.rfl

open Classical in
/-- A beam's score, at minus infinity when it has ended. -/
theorem prmS_apply (i : Fin 8) : prmS c M2 M3 (h2.unread X2) (h3.unread X3) b hb (ix2 i 0) = if eN X3 b i then ⊥ else pN X2 b i := by
  have h : prmS c M2 M3 (h2.unread X2) (h3.unread X3) b hb (ix2 i 0)
      = Scalar.select (enB c M3 (h3.unread X3) b hb (ix2 i 0)) (Ideal.ofBits .f32 4286578688#32) (prS c M2 (h2.unread X2) b hb (ix2 i 0)) := rfl
  rw [h, enB_apply, select_ofBool, prS_apply c b hb M2 h2 X2 i, ofBits_ninf]
  simp only [decide_eq_true_eq]

/-- The last tile, filled up with minus infinity. -/
theorem lastS_apply (i : Fin 8) (l : Fin 128) :
    lastS c M1 (h1.unread X1) b hb (ix2 i l) = if l.val < 32 then xN X1 b i (99968 + l) else ⊥ := by
  pointwise [lastS]
  split
  · rename_i h
    exact load1 M1 h1 X1 b hb 99968 32 _ (by norm_num) i ⟨l.val, h⟩
  · exact ofBits_ninf

/-- The running maximum is a score of the column, and the tile kept is the first that has it. -/
theorem acc_spec (g : Nat) (i : Fin 8) (l : Fin 128) : ∀ (n : Nat) (h : 4096 * g + 128 * n + 128 ≤ 100000), ∃ u ≤ n,
    uaccS c M1 (h1.unread X1) b hb g n h (ix2 i l) = wd u ∧
      accS c M1 (h1.unread X1) b hb g n h (ix2 i l) = xN X1 b i (4096 * g + 128 * u + l) ∧
      ∀ u' ≤ n, u' = u ∨ beats (fun v => xN X1 b i (4096 * g + 128 * v + l)) u u'
  | 0, h => ⟨0, le_rfl, rfl, tileS_apply c M1 h1 X1 b hb _ h i l, fun u' hu => Or.inl (by omega)⟩
  | n + 1, h => by
    obtain ⟨u, hu, e1, e2, e3⟩ := acc_spec g i l n (by omega)
    have ht := tileS_apply c M1 h1 X1 b hb (4096 * g + 128 * (n + 1)) h i l
    have hA : accS c M1 (h1.unread X1) b hb g (n + 1) h (ix2 i l)
        = max (accS c M1 (h1.unread X1) b hb g n (by omega) (ix2 i l)) (tileS c M1 (h1.unread X1) b hb (4096 * g + 128 * (n + 1)) h (ix2 i l)) := rfl
    have hU : uaccS c M1 (h1.unread X1) b hb g (n + 1) h (ix2 i l)
        = Scalar.select (BitVec.ofBool (@decide (accS c M1 (h1.unread X1) b hb g n (by omega) (ix2 i l) < tileS c M1 (h1.unread X1) b hb (4096 * g + 128 * (n + 1)) h (ix2 i l)) (Classical.dec _)))
            (wd (n + 1)) (uaccS c M1 (h1.unread X1) b hb g n (by omega) (ix2 i l)) := by
      rw [uaccS]; pointwise; congr 2
    rw [ht, e2] at hA
    rw [ht, e2, e1, select_ofBool] at hU
    simp only [decide_eq_true_eq] at hU
    by_cases hlt : xN X1 b i (4096 * g + 128 * u + l) < xN X1 b i (4096 * g + 128 * (n + 1) + l)
    · rw [if_pos hlt] at hU
      rw [max_eq_right hlt.le] at hA
      refine ⟨n + 1, le_rfl, hU, hA, fun u' hu' => ?_⟩
      rcases hu'.eq_or_lt with h' | h'
      · exact Or.inl h'
      · right
        rcases e3 u' (by omega) with rfl | hb'
        · exact Or.inl hlt
        · rcases hb' with hb' | ⟨hb', -⟩
          · exact Or.inl (hb'.trans hlt)
          · exact Or.inl (hb'.trans_lt hlt)
    · rw [if_neg hlt] at hU
      rw [max_eq_left (not_lt.mp hlt)] at hA
      refine ⟨u, by omega, hU, hA, fun u' hu' => ?_⟩
      rcases hu'.eq_or_lt with rfl | h'
      · right
        rcases (not_lt.mp hlt).lt_or_eq with h'' | h''
        · exact Or.inl h''
        · exact Or.inr ⟨h'', by omega⟩
      · exact e3 u' (by omega)

/-- The last group's maximum and tile, over thirteen whole tiles and one cut short. -/
theorem last_spec (i : Fin 8) (l : Fin 128) (hx : ∀ v, ⊥ < xN X1 b i v) : ∃ u, 128 * u + l.val < 1696 ∧
    select (cmpf .ogt (lastS c M1 (h1.unread X1) b hb) (accS c M1 (h1.unread X1) b hb 24 12 (by omega))) (broadcast S8x128 13#32)
      (uaccS c M1 (h1.unread X1) b hb 24 12 (by omega)) (ix2 i l) = wd u ∧
      maximumf (accS c M1 (h1.unread X1) b hb 24 12 (by omega)) (lastS c M1 (h1.unread X1) b hb) (ix2 i l) = xN X1 b i (4096 * 24 + 128 * u + l) ∧
      ∀ u', 128 * u' + l.val < 1696 → u' = u ∨ beats (fun v => xN X1 b i (4096 * 24 + 128 * v + l)) u u' := by
  obtain ⟨u, hu, e1, e2, e3⟩ := acc_spec c M1 h1 X1 b hb 24 i l 12 (by omega)
  have hlast := lastS_apply c M1 h1 X1 b hb i l
  have hll := l.isLt
  have hA : maximumf (accS c M1 (h1.unread X1) b hb 24 12 (by omega)) (lastS c M1 (h1.unread X1) b hb) (ix2 i l)
      = max (accS c M1 (h1.unread X1) b hb 24 12 (by omega) (ix2 i l)) (lastS c M1 (h1.unread X1) b hb (ix2 i l)) := rfl
  have hU : select (cmpf .ogt (lastS c M1 (h1.unread X1) b hb) (accS c M1 (h1.unread X1) b hb 24 12 (by omega))) (broadcast S8x128 13#32)
        (uaccS c M1 (h1.unread X1) b hb 24 12 (by omega)) (ix2 i l)
      = Scalar.select (BitVec.ofBool (@decide (accS c M1 (h1.unread X1) b hb 24 12 (by omega) (ix2 i l) < lastS c M1 (h1.unread X1) b hb (ix2 i l)) (Classical.dec _)))
          (wd 13) (uaccS c M1 (h1.unread X1) b hb 24 12 (by omega) (ix2 i l)) := by
    pointwise; congr 2
  rw [hlast, e2] at hA
  rw [hlast, e2, e1, select_ofBool] at hU
  simp only [decide_eq_true_eq] at hU
  by_cases hl : l.val < 32
  · rw [if_pos hl, show 99968 + l.val = 4096 * 24 + 128 * 13 + l.val by omega] at hA hU
    by_cases hlt : xN X1 b i (4096 * 24 + 128 * u + l) < xN X1 b i (4096 * 24 + 128 * 13 + l)
    · rw [if_pos hlt] at hU
      rw [max_eq_right hlt.le] at hA
      refine ⟨13, by omega, hU, hA, fun u' hu' => ?_⟩
      rcases (show u' ≤ 13 by omega).eq_or_lt with h' | h'
      · exact Or.inl h'
      · right
        rcases e3 u' (by omega) with rfl | hb'
        · exact Or.inl hlt
        · rcases hb' with hb' | ⟨hb', -⟩
          · exact Or.inl (hb'.trans hlt)
          · exact Or.inl (hb'.trans_lt hlt)
    · rw [if_neg hlt] at hU
      rw [max_eq_left (not_lt.mp hlt)] at hA
      refine ⟨u, by omega, hU, hA, fun u' hu' => ?_⟩
      rcases (show u' ≤ 13 by omega).eq_or_lt with rfl | h'
      · right
        rcases (not_lt.mp hlt).lt_or_eq with h'' | h''
        · exact Or.inl h''
        · exact Or.inr ⟨h'', by omega⟩
      · exact e3 u' (by omega)
  · rw [if_neg hl] at hA hU
    rw [if_neg (not_lt.mpr bot_le)] at hU
    rw [max_eq_left bot_le] at hA
    exact ⟨u, by omega, hU, hA, fun u' hu' => e3 u' (by omega)⟩

/-- The store of group `k` is what the first `n` groups' stores leave in its columns. -/
theorem canon_piecesA (k : Nat) (i : Fin 8) (l : Fin 128) : ∀ (n : Nat) (hn : n ≤ 24) (hk : k < n),
    View.canon (piecesA c M1 (h1.unread X1) b hb n hn) (ix2 i ⟨128 * k + l.val, by omega⟩) = accS c M1 (h1.unread X1) b hb k 31 (by omega) (ix2 i l)
  | n + 1, hn, hk => by
    rw [piecesA]
    by_cases e : k = n
    · subst e
      have := View.canon_cons_emb (Val := Elt Ideal) (Rect.unit (s := S8x3200) ![0, 128 * k] S8x128.size (inbP k (by omega)))
        (shapeCast S8x128 (accS c M1 (h1.unread X1) b hb k 31 (by omega)) shapeCasts_S8x128_S8x128) (piecesA c M1 (h1.unread X1) b hb k (by omega)) (ix2 i l)
      rw [show (Rect.unit (s := S8x3200) ![0, 128 * k] S8x128.size (inbP k (by omega))).emb (ix2 i l) = ix2 i ⟨128 * k + l.val, by omega⟩ from by
        funext a; fin_cases a
        · apply Fin.ext; show 0 + 1 * i.val = i.val; omega
        · apply Fin.ext; show 128 * k + 1 * l.val = 128 * k + l.val; omega] at this
      rw [this]
      pointwise
    · rw [View.canon_cons_of_not_mem]
      · exact canon_piecesA k i l n (by omega) (by omega)
      · rw [Rect.mem_set_unit]
        intro h
        have := (h 1).1
        change 128 * n ≤ 128 * k + l.val at this
        omega

/-- The table of places, put together from its groups. -/
theorem canon_piecesF (k : Nat) (i : Fin 8) (l : Fin 128) : ∀ (n : Nat) (hn : n ≤ 24) (hk : k < n),
    View.canon (piecesF c M1 (h1.unread X1) b hb n hn) (ix2 i ⟨128 * k + l.val, by omega⟩) = uaccS c M1 (h1.unread X1) b hb k 31 (by omega) (ix2 i l)
  | n + 1, hn, hk => by
    rw [piecesF]
    by_cases e : k = n
    · subst e
      have := View.canon_cons_emb (Val := Elt Ideal) (Rect.unit (s := S8x3200) ![0, 128 * k] S8x128.size (inbP k (by omega)))
        (shapeCast S8x128 (uaccS c M1 (h1.unread X1) b hb k 31 (by omega)) shapeCasts_S8x128_S8x128) (piecesF c M1 (h1.unread X1) b hb k (by omega)) (ix2 i l)
      rw [show (Rect.unit (s := S8x3200) ![0, 128 * k] S8x128.size (inbP k (by omega))).emb (ix2 i l) = ix2 i ⟨128 * k + l.val, by omega⟩ from by
        funext a; fin_cases a
        · apply Fin.ext; show 0 + 1 * i.val = i.val; omega
        · apply Fin.ext; show 128 * k + 1 * l.val = 128 * k + l.val; omega] at this
      rw [this]
      pointwise
    · rw [View.canon_cons_of_not_mem]
      · exact canon_piecesF k i l n (by omega) (by omega)
      · rw [Rect.mem_set_unit]
        intro h
        have := (h 1).1
        change 128 * n ≤ 128 * k + l.val at this
        omega

end

end Cert.Proof.KernelIdeal

end
-- ==== Proof.Init.lean ====
/-
  The tables the rounds begin with hold the best candidate of every class.
-/
module

public import proofs.«01_k».proof.Proof.Tiles

@[expose] public section

set_option maxRecDepth 16384

noncomputable section

namespace Cert.Proof.KernelIdeal

open _root_.Cert.KernelIdeal _root_.Cert.KernelIdeal.Gen _root_.Cert.KernelIdeal.Facts

open Idealize.ShloMosaic
open Cert.Proof.Beam (beats sc Inv Live Dead inE)

/-- The columns of the table are numbered. -/
theorem iotaC (i : Fin 8) (j : Fin 3200) : iota .tc S8x3200 32 [1] iota_S8x3200_d1_w32 (ix2 i j) = wd j.val := by pointwise
/-- The rows of the table are numbered. -/
theorem iotaR (i : Fin 8) (j : Fin 3200) : iota .tc S8x3200 32 [0] iota_S8x3200_d0_w32 (ix2 i j) = wd i.val := by pointwise

section
variable (X1 : S32x100000.Idx → EReal) (X2 X3 : S4x8x1.Idx → EReal) (b : Nat)

open Classical in
/-- The score of candidate `n` of batch row `b` of four. -/
def pS : Nat → EReal := sc (xN X1 b) (pN X2 b) (eN X3 b)

variable {X1 X2 X3 b}

/-- The score of an ended beam's candidate: the beam's own at the end word, else minus infinity. -/
theorem pS_ended {k v : Nat} (h : eN X3 b k) (hv : v < 100000) : pS X1 X2 X3 b (k * 100000 + v) = if v = 2 then pN X2 b k else ⊥ := by
  unfold pS sc
  rw [show (k * 100000 + v) / 100000 = k by omega, show (k * 100000 + v) % 100000 = v by omega, if_pos h]

/-- The score of another beam's candidate: the word's and the beam's added. -/
theorem pS_going {k v : Nat} (h : ¬ eN X3 b k) (hv : v < 100000) : pS X1 X2 X3 b (k * 100000 + v) = xN X1 b k v + pN X2 b k := by
  unfold pS sc
  rw [show (k * 100000 + v) / 100000 = k by omega, show (k * 100000 + v) % 100000 = v by omega, if_neg h]

/-- The scores are above minus infinity, and the beams' are numbers. -/
structure Usable (X1 : S32x100000.Idx → EReal) (X2 : S4x8x1.Idx → EReal) (b : Nat) : Prop where
  x : ∀ k v, ⊥ < xN X1 b k v
  lo : ∀ k, ⊥ < pN X2 b k
  hi : ∀ k, pN X2 b k < ⊤

/-- A sum of two numbers above minus infinity is above it. -/
theorem add_pos_bot {x y : EReal} (hx : ⊥ < x) (hy : ⊥ < y) : ⊥ < x + y :=
  bot_lt_iff_ne_bot.mpr fun h => (EReal.add_eq_bot_iff.mp h).elim hx.ne' hy.ne'

/-- A finite summand may be dropped from both sides of a comparison. -/
theorem add_lt_iff {x y z : EReal} (h1 : ⊥ < z) (h2 : z < ⊤) : x + z < y + z ↔ x < y := by
  lift z to ℝ using ⟨h2.ne, h1.ne'⟩
  constructor
  · intro h
    by_contra hc
    exact absurd h (not_lt.mpr (add_le_add_left (not_lt.mp hc) _))
  · intro h
    exact EReal.add_lt_add_right_coe h z

/-- A finite summand may be dropped from both sides of an equation. -/
theorem add_eq_iff {x y z : EReal} (h1 : ⊥ < z) (h2 : z < ⊤) : x + z = y + z ↔ x = y := by
  constructor
  · intro h
    rcases lt_trichotomy x y with hl | hl | hl
    · exact absurd h ((add_lt_iff h1 h2).mpr hl).ne
    · exact hl
    · exact absurd h ((add_lt_iff h1 h2).mpr hl).ne'
  · rintro rfl; rfl

/-- A candidate of a beam that has not ended is above minus infinity. -/
theorem pS_pos (hu : Usable X1 X2 b) (m : Nat) (h : ¬ eN X3 b (m / 100000)) : ⊥ < pS X1 X2 X3 b m := by
  have := pS_going (X1 := X1) (X2 := X2) h (Nat.mod_lt m (by norm_num))
  rw [show m / 100000 * 100000 + m % 100000 = m by omega] at this
  rw [this]
  exact add_pos_bot (hu.x _ _) (hu.lo _)

/-- A candidate of an ended beam at another word than the end word is at minus infinity. -/
theorem pS_bot (m : Nat) (h : eN X3 b (m / 100000)) (h2 : m % 100000 ≠ 2) : pS X1 X2 X3 b m = ⊥ := by
  have := pS_ended (X1 := X1) (X2 := X2) h (Nat.mod_lt m (by norm_num))
  rw [show m / 100000 * 100000 + m % 100000 = m by omega] at this
  rw [this, if_neg h2]

/-- Every beam's candidate at the end word is above minus infinity. -/
theorem pS_two (hu : Usable X1 X2 b) (k : Nat) : ⊥ < pS X1 X2 X3 b (k * 100000 + 2) := by
  by_cases h : eN X3 b k
  · rw [pS_ended h (by norm_num), if_pos rfl]; exact hu.lo _
  · rw [pS_going h (by norm_num)]; exact add_pos_bot (hu.x _ _) (hu.lo _)

end

/-- The columns of the last group. -/
theorem rect24 {e : EltTy} (w : S8x128.Idx → Elt Ideal e) (L : List (View.Piece (Elt Ideal) S8x3200 e)) (i : Fin 8) (l : Fin 128) :
    View.canon (⟨Rect.unit (s := S8x3200) ![0, 128 * 24] S8x128.size (inbP 24 (by omega)), w⟩ :: L) (ix2 i ⟨128 * 24 + l.val, by omega⟩) = w (ix2 i l) := by
  have hemb : (Rect.unit (s := S8x3200) ![0, 128 * 24] S8x128.size (inbP 24 (by omega))).emb (ix2 i l) = ix2 i ⟨128 * 24 + l.val, by omega⟩ := by
    funext a; fin_cases a
    · apply Fin.ext; show 0 + 1 * i.val = i.val; omega
    · apply Fin.ext; show 128 * 24 + 1 * l.val = 128 * 24 + l.val; omega
  rw [← hemb]
  exact View.canon_cons_emb (Val := Elt Ideal) (Rect.unit (s := S8x3200) ![0, 128 * 24] S8x128.size (inbP 24 (by omega))) w L (ix2 i l)

/-- The columns of the other groups. -/
theorem rect24_off {e : EltTy} (w : S8x128.Idx → Elt Ideal e) (L : List (View.Piece (Elt Ideal) S8x3200 e)) (i : Fin 8) (j : Fin 3200) (hj : j.val < 3072) :
    View.canon (⟨Rect.unit (s := S8x3200) ![0, 128 * 24] S8x128.size (inbP 24 (by omega)), w⟩ :: L) (ix2 i j) = View.canon L (ix2 i j) := by
  rw [View.canon_cons_of_not_mem]
  rw [Rect.mem_set_unit]
  intro h
  have := (h 1).1
  change 128 * 24 ≤ j.val at this
  omega

section
variable (c : Dev nD) (M1 : Memref sig .tc .vmem S32x100000 .f32) (h1 : M1.IsWhole) (X1 : S32x100000.Idx → Elt Ideal .f32)
  (M2 M3 : Memref sig .tc .vmem S4x8x1 .f32) (h2 : M2.IsWhole) (h3 : M3.IsWhole) (X2 X3 : S4x8x1.Idx → Elt Ideal .f32)
  (MA : Memref sig .tc .vmem S8x3200 .f32) (MF : Memref sig .tc .vmem S8x3200 .i32)
  (b : Nat) (hb : b < 4)

attribute [local irreducible] piecesA piecesF accS uaccS lastS

/-- What the stores of the maxima and of the tiles leave at an entry. -/
theorem col_spec (i : Fin 8) (g : Nat) (hg : g < 25) (l : Fin 128) (hx : ∀ v, ⊥ < xN X1 b i v) : ∃ u < 32, 4096 * g + 128 * u + l.val < 100000 ∧
    View.canon (allF c M1 (h1.unread X1) b hb) (ix2 i ⟨128 * g + l.val, by omega⟩) = wd u ∧
    View.canon (allA c M1 (h1.unread X1) b hb) (ix2 i ⟨128 * g + l.val, by omega⟩) = xN X1 b i (4096 * g + 128 * u + l.val) ∧
    ∀ u' < 32, 4096 * g + 128 * u' + l.val < 100000 →
      u' = u ∨ beats (fun v => xN X1 b i (4096 * g + 128 * v + l.val)) u u' := by
  have hl := l.isLt
  by_cases hg24 : g < 24
  · obtain ⟨u, hu, e1, e2, e3⟩ := acc_spec c M1 h1 X1 b hb g i l 31 (by omega)
    refine ⟨u, by omega, by omega, ?_, ?_, fun u' hu' _ => e3 u' (by omega)⟩
    · exact (rect24_off _ _ i _ (by show 128 * g + l.val < 3072; omega)).trans ((canon_piecesF c M1 h1 X1 b hb g i l 24 le_rfl hg24).trans e1)
    · exact (rect24_off _ _ i _ (by show 128 * g + l.val < 3072; omega)).trans ((canon_piecesA c M1 h1 X1 b hb g i l 24 le_rfl hg24).trans e2)
  · obtain rfl : g = 24 := by omega
    obtain ⟨u, hu, e1, e2, e3⟩ := last_spec c M1 h1 X1 b hb i l hx
    refine ⟨u, by omega, by omega, ?_, ?_, fun u' _ hu' => e3 u' (by omega)⟩
    · exact (rect24 _ _ i l).trans ((congrFun (shapeCast_id _ _) _).trans e1)
    · exact (rect24 _ _ i l).trans ((congrFun (shapeCast_id _ _) _).trans e2)

/-- The entries corrected for ended beams: those of the end word's column. -/
theorem endfix_apply (i : Fin 8) (j : Fin 3200) :
    endfix c M3 (h3.unread X3) b hb (ix2 i j) = BitVec.ofBool (@decide (eN X3 b i ∧ j.val = 2) (Classical.dec _)) := by
  have e : endfix c M3 (h3.unread X3) b hb (ix2 i j) = IntOp.andi (enB c M3 (h3.unread X3) b hb (ix2 i 0)) (IntOp.cmpi .eq (wd j.val) (wd 2)) := by
    unfold endfix; pointwise
  rw [e, enB_apply, cmpi_eqN (by omega) (by norm_num), WordArith.andi_ofBool]
  congr 1
  rw [Bool.eq_iff_iff]
  simp only [Bool.and_eq_true, decide_eq_true_eq]

open Classical in
/-- An entry of the first table of scores. -/
theorem initA_apply (i : Fin 8) (j : Fin 3200) : initA c M1 (h1.unread X1) M2 M3 (h2.unread X2) (h3.unread X3) MA b hb (ix2 i j)
    = if eN X3 b i ∧ j.val = 2 then pN X2 b i else View.canon (allA c M1 (h1.unread X1) b hb) (ix2 i j) + if eN X3 b i then ⊥ else pN X2 b i := by
  have e : initA c M1 (h1.unread X1) M2 M3 (h2.unread X2) (h3.unread X3) MA b hb (ix2 i j)
      = Scalar.select (endfix c M3 (h3.unread X3) b hb (ix2 i j)) (prS c M2 (h2.unread X2) b hb (ix2 i 0))
        (MA.view.readCov (allA c M1 (h1.unread X1) b hb) (Rect.unit (s := S8x3200) ![0, 0] S8x3200.size inb_S8x3200_S8x3200_0_0).toLoadRect (ix2 i j)
          + prmS c M2 M3 (h2.unread X2) (h3.unread X3) b hb (ix2 i 0)) := by
    unfold initA; pointwise
  have hidx : (Rect.unit (s := S8x3200) ![0, 0] S8x3200.size inb_S8x3200_S8x3200_0_0).toLoadRect.idx (ix2 i j) = ix2 i j := by
    funext a; fin_cases a
    · apply Fin.ext; show 0 + 1 * i.val = i.val; omega
    · apply Fin.ext; show 0 + 1 * j.val = j.val; omega
  rw [e, View.readCov_eq_canon', endfix_apply, select_ofBool, prS_apply c b hb M2 h2 X2 i, prmS_apply]
  simp only [decide_eq_true_eq, hidx]

open Classical in
/-- An entry of the first table of places. -/
theorem initF_apply (i : Fin 8) (j : Fin 3200) : initF c M1 (h1.unread X1) M3 (h3.unread X3) MF b hb (ix2 i j)
    = IntOp.addi (wd (i.val * 100000 + j.val / 128 * 4096 + j.val % 128))
        (IntOp.muli (if eN X3 b i ∧ j.val = 2 then wd 0 else View.canon (allF c M1 (h1.unread X1) b hb) (ix2 i j)) (wd 128)) := by
  have e : initF c M1 (h1.unread X1) M3 (h3.unread X3) MF b hb (ix2 i j)
      = IntOp.addi (IntOp.addi (IntOp.addi (IntOp.muli (iota .tc S8x3200 32 [0] iota_S8x3200_d0_w32 (ix2 i j)) (wd 100000))
          (IntOp.muli (fdivW (wd 128) (iota .tc S8x3200 32 [1] iota_S8x3200_d1_w32 (ix2 i j))) (wd 4096)))
          (fmodW (wd 128) (iota .tc S8x3200 32 [1] iota_S8x3200_d1_w32 (ix2 i j))))
        (IntOp.muli (Scalar.select (endfix c M3 (h3.unread X3) b hb (ix2 i j)) (wd 0)
          (MF.view.readCov (allF c M1 (h1.unread X1) b hb) (Rect.unit (s := S8x3200) ![0, 0] S8x3200.size inb_S8x3200_S8x3200_0_0).toLoadRect (ix2 i j))) (wd 128)) := by
    rw [initF, shapeCast_id]; rfl
  have hidx : (Rect.unit (s := S8x3200) ![0, 0] S8x3200.size inb_S8x3200_S8x3200_0_0).toLoadRect.idx (ix2 i j) = ix2 i j := by
    funext a; fin_cases a
    · apply Fin.ext; show 0 + 1 * i.val = i.val; omega
    · apply Fin.ext; show 0 + 1 * j.val = j.val; omega
  rw [e, iotaC, iotaR, fdivN (by norm_num) (by norm_num) (by omega), fmodN (by norm_num) (by norm_num) (by omega), muliN, muliN, addiN, addiN,
    View.readCov_eq_canon', endfix_apply, select_ofBool]
  simp only [decide_eq_true_eq, hidx]

/-- The places of a table, as numbers. -/
def plc (P : IVec S8x3200 32) (i : Fin 8) (j : Fin 3200) : Nat := (P (ix2 i j)).toNat

/-- The first tables hold every column's best candidate. -/
theorem init_inv (hu : Usable X1 X2 b) : Inv (pS X1 X2 X3 b) (eN X3 b)
    (fun i j => initA c M1 (h1.unread X1) M2 M3 (h2.unread X2) (h3.unread X3) MA b hb (ix2 i j)) (plc (initF c M1 (h1.unread X1) M3 (h3.unread X3) MF b hb)) ∅ := by
  refine ⟨by simp, fun i j => ?_⟩
  obtain ⟨g, l, hg, rfl⟩ : ∃ (g : Nat) (l : Fin 128) (hg : g < 25), j = ⟨128 * g + l.val, by omega⟩ :=
    ⟨j.val / 128, ⟨j.val % 128, Nat.mod_lt _ (by norm_num)⟩, by omega, Fin.ext (by show j.val = 128 * (j.val / 128) + j.val % 128; omega)⟩
  obtain ⟨u, hu32, hlt, eF, eA, best⟩ := col_spec c M1 h1 X1 b hb i g hg l (hu.x i)
  have hl := l.isLt
  have hi := i.isLt
  have hw1 : (i.val * 100000 + (4096 * g + 128 * u + l.val)) / 100000 = i.val := by omega
  have hw2 : (i.val * 100000 + (4096 * g + 128 * u + l.val)) % 100000 = 4096 * g + 128 * u + l.val := by omega
  generalize hj : (⟨128 * g + l.val, by omega⟩ : Fin 3200) = j at *
  have hjv : j.val = 128 * g + l.val := by rw [← hj]
  have hA := initA_apply c M1 h1 X1 M2 M3 h2 h3 X2 X3 MA b hb i j
  have hF := initF_apply c M1 h1 X1 M3 h3 X3 MF b hb i j
  rw [eA] at hA
  rw [eF] at hF
  by_cases he : eN X3 b i
  · by_cases hj2 : j.val = 2
    · left
      rw [if_pos ⟨he, hj2⟩] at hA hF
      have hφ : plc (initF c M1 (h1.unread X1) M3 (h3.unread X3) MF b hb) i j = i.val * 100000 + 2 := by
        unfold plc
        rw [hF, muliN, addiN, WordArith.toNat_ofNat_of_lt _ (by omega)]
        omega
      have hp2 : pS X1 X2 X3 b (i.val * 100000 + 2) = pN X2 b i := by rw [pS_ended he (by norm_num), if_pos rfl]
      refine ⟨?_, by omega, ?_, by simp, ?_, fun m hm hmij _ => ?_⟩
      · show initA _ _ _ _ _ _ _ _ _ _ _ = _
        rw [hA, hφ, hp2]
      · rw [hφ]; exact ⟨by omega, by omega⟩
      · rw [hφ, hp2]; exact hu.lo _
      · rw [hφ]
        obtain ⟨m1, m2⟩ := hmij
        by_cases hm2 : m % 100000 = 2
        · left; omega
        · right
          left
          rw [pS_bot m (m1 ▸ he) hm2, hp2]
          exact hu.lo _
    · right
      rw [if_neg (fun h => hj2 h.2), if_pos he, EReal.add_bot] at hA
      rw [if_neg (fun h => hj2 h.2)] at hF
      have hφ : plc (initF c M1 (h1.unread X1) M3 (h3.unread X3) MF b hb) i j = i.val * 100000 + (4096 * g + 128 * u + l.val) := by
        unfold plc
        rw [hF, muliN, addiN, WordArith.toNat_ofNat_of_lt _ (by omega)]
        omega
      refine ⟨he, hA, by omega, ?_, fun m hm hmij hpm => ?_⟩
      · rw [hφ, pS_ended he hlt, if_neg (by omega)]
      · obtain ⟨m1, m2⟩ := hmij
        exact absurd (pS_bot m (m1 ▸ he) (by omega)) hpm.ne'
  · left
    rw [if_neg (fun h => he h.1), if_neg he] at hA
    rw [if_neg (fun h => he h.1)] at hF
    have hφ : plc (initF c M1 (h1.unread X1) M3 (h3.unread X3) MF b hb) i j = i.val * 100000 + (4096 * g + 128 * u + l.val) := by
      unfold plc
      rw [hF, muliN, addiN, WordArith.toNat_ofNat_of_lt _ (by omega)]
      omega
    refine ⟨?_, by omega, ?_, by simp, ?_, fun m hm hmij _ => ?_⟩
    · show initA _ _ _ _ _ _ _ _ _ _ _ = _
      rw [hA, hφ, pS_going he hlt]
    · rw [hφ]; exact ⟨hw1, by rw [hw2]; omega⟩
    · rw [hφ, pS_going he hlt]; exact add_pos_bot (hu.x _ _) (hu.lo _)
    · rw [hφ]
      obtain ⟨m1, m2⟩ := hmij
      obtain ⟨u', hu', em⟩ : ∃ u' < 32, m % 100000 = 4096 * g + 128 * u' + l.val :=
        ⟨m % 100000 % 4096 / 128, by omega, by omega⟩
      have em' : m = i.val * 100000 + (4096 * g + 128 * u' + l.val) := by omega
      rcases best u' hu' (by omega) with rfl | hb'
      · left; omega
      · right
        rw [em']
        unfold beats at hb' ⊢
        rw [pS_going he hlt, pS_going he (by omega), add_lt_iff (hu.lo _) (hu.hi _), add_eq_iff (hu.lo _) (hu.hi _)]
        rcases hb' with h | ⟨h, h'⟩
        · exact Or.inl h
        · exact Or.inr ⟨h, by omega⟩

end

end Cert.Proof.KernelIdeal

end
-- ==== Proof.Round.lean ====
/-
  One round keeps the tables' meaning.
-/
module

public import proofs.«01_k».proof.Proof.Init

@[expose] public section

set_option maxRecDepth 16384

noncomputable section

namespace Cert.Proof.KernelIdeal

open _root_.Cert.KernelIdeal _root_.Cert.KernelIdeal.Gen _root_.Cert.KernelIdeal.Facts

open Idealize.ShloMosaic
open Cert.Proof.Beam (beats sc Inv Live Dead inE)

/-- A folded maximum, and the least number among those where it is met. -/
theorem maxmin {ι : Type} [Fintype ι] [DecidableEq ι] [Nonempty ι] (f : ι → EReal) (h : ι → Nat) (w : ι → BitVec 32) (hw : ∀ x, w x = wd (h x))
    (hh : ∀ x, h x < 2 ^ 30) (nb : EReal) (hnb : nb = Finset.fold max (Ideal.ofBits .f32 4286578688#32) f Finset.univ) (inst : ∀ x, Decidable (f x = nb)) :
    ∃ m, Finset.fold IntOp.minsi 2147483647#32 (fun x => @ite _ (f x = nb) (inst x) (w x) 1073741824#32) Finset.univ = wd m ∧
      (∃ x, f x = nb ∧ h x = m) ∧ (∀ x, f x ≤ nb) ∧ ∀ x, f x = nb → m ≤ h x := by
  obtain ⟨h1, h2⟩ := fold_max Finset.univ f
  rw [ofBits_ninf] at hnb
  rw [← hnb] at h1 h2
  have hex : ∃ x, f x = nb := by
    rcases h2 with h2 | ⟨x, -, hx⟩
    · obtain ⟨x⟩ := ‹Nonempty ι›
      exact ⟨x, le_antisymm (h1 x (Finset.mem_univ x)) (h2 ▸ bot_le)⟩
    · exact ⟨x, hx⟩
  obtain ⟨m, e, -, hle, hat⟩ := fold_minsi Finset.univ (fun x => @ite _ (f x = nb) (inst x) (w x) 1073741824#32)
    (fun x => @ite _ (f x = nb) (inst x) (h x) 1073741824) (fun x _ => by
      split
      · exact ⟨hw x, by have := hh x; omega⟩
      · exact ⟨rfl, by norm_num⟩)
  refine ⟨m, e, ?_, fun x => h1 x (Finset.mem_univ x), fun x hx => ?_⟩
  · obtain ⟨x, hx⟩ := hex
    have h3 := hle x (Finset.mem_univ x)
    rw [if_pos hx] at h3
    have h4 := hh x
    rcases hat with hat | ⟨y, -, hy⟩
    · omega
    · split at hy
      · exact ⟨y, ‹_›, hy⟩
      · omega
  · have h3 := hle x (Finset.mem_univ x)
    rwa [if_pos hx] at h3

/-- The round's score is the largest entry. -/
theorem mxR_apply (A : FVec Ideal S8x3200 .f32) (i : S1x1.Idx) :
    mxR A i = Finset.fold max (Ideal.ofBits .f32 4286578688#32) (fun x : Fin 8 × Fin 3200 => A (ix2 x.1 x.2)) Finset.univ := by
  pointwise [mxR]

/-- A folded minimum over two axes of three. -/
theorem minRed {m n : Nat} (X : IVec (⟨3, ![1, m, n]⟩ : Shape) 32) (acc : BitVec 32) (h : (⟨3, ![1, m, n]⟩ : Shape).Reduces [1, 2] S1) (hacc : acc = IKind.minsi.neutral) (j : S1.Idx) :
    multiReductionI .minsi [1, 2] S1 X acc h hacc j = Finset.fold IntOp.minsi acc (fun x : Fin m × Fin n => X (ix3 0 x.1 x.2)) Finset.univ := by
  rw [multiReductionI_eq_fold]
  pointwise

/-- The same, of a table. -/
theorem minRed2 {m n : Nat} (X : IVec (⟨2, ![m, n]⟩ : Shape) 32) (acc : BitVec 32) (h : (⟨3, ![1, m, n]⟩ : Shape).Reduces [1, 2] S1) (hacc : acc = IKind.minsi.neutral)
    (hs : (⟨2, ![m, n]⟩ : Shape).ShapeCasts ⟨3, ![1, m, n]⟩) (hx : ∀ a b, shapeCast (⟨3, ![1, m, n]⟩ : Shape) X hs (ix3 0 a b) = X (ix2 a b)) (i : S1x1.Idx) :
    broadcast S1x1 (extractAt ![0, 0, 0] (shapeCast S1x1x1 (multiReductionI .minsi [1, 2] S1 (shapeCast (⟨3, ![1, m, n]⟩ : Shape) X hs)
      acc h hacc) shapeCasts_S1_S1x1x1) inpos_S1x1x1_p0_0_0) i = Finset.fold IntOp.minsi acc (fun x : Fin m × Fin n => X (ix2 x.1 x.2)) Finset.univ := by
  show multiReductionI .minsi [1, 2] S1 _ acc h hacc _ = _
  rw [minRed]
  exact Finset.fold_congr fun x _ => hx x.1 x.2

/-- The round's place is the least among the entries of the largest score. -/
theorem fmR_apply (A : FVec Ideal S8x3200 .f32) (P : IVec S8x3200 32) (i : S1x1.Idx) :
    fmR A P i = Finset.fold IntOp.minsi 2147483647#32 (fun x : Fin 8 × Fin 3200 => @ite _ (A (ix2 x.1 x.2) = mxR A (ix2 0 0)) (Classical.dec _) (P (ix2 x.1 x.2)) 1073741824#32) Finset.univ := by
  refine (minRed2 _ _ _ _ _ (fun a b => by pointwise) i).trans ?_
  refine Finset.fold_congr fun x _ => ?_
  pointwise
  by_cases h : A (ix2 x.1 x.2) = mxR A (ix2 0 0)
  · rw [if_pos h, if_pos h]
  · rw [if_neg h, if_neg h]

/-- The next best of a group is the largest of what was kept. -/
theorem nbdR_apply (A : FVec Ideal S8x4096 .f32) (i : S1x1.Idx) :
    nbdR A i = Finset.fold max (Ideal.ofBits .f32 4286578688#32) (fun x : Fin 8 × Fin 4096 => A (ix2 x.1 x.2)) Finset.univ := by
  pointwise [nbdR]

/-- The same in the last group. -/
theorem nbtR_apply (A : FVec Ideal S8x1696 .f32) (i : S1x1.Idx) :
    nbtR A i = Finset.fold max (Ideal.ofBits .f32 4286578688#32) (fun x : Fin 8 × Fin 1696 => A (ix2 x.1 x.2)) Finset.univ := by
  pointwise [nbtR]

/-- The next best's word is the least among those of that score. -/
theorem nvdR_apply (A : FVec Ideal S8x4096 .f32) (s : BitVec 32) (i : S1x1.Idx) :
    nvdR A s i = Finset.fold IntOp.minsi 2147483647#32 (fun x : Fin 8 × Fin 4096 => @ite _ (A (ix2 x.1 x.2) = nbdR A (ix2 0 0)) (Classical.dec _) (IntOp.addi (wd x.2.val) s) 1073741824#32) Finset.univ := by
  refine (minRed2 _ _ _ _ _ (fun a b => by pointwise) i).trans ?_
  refine Finset.fold_congr fun x _ => ?_
  pointwise
  by_cases h : A (ix2 x.1 x.2) = nbdR A (ix2 0 0)
  · rw [if_pos h, if_pos h]
  · rw [if_neg h, if_neg h]

/-- The same in the last group. -/
theorem nvtR_apply (A : FVec Ideal S8x1696 .f32) (i : S1x1.Idx) :
    nvtR A i = Finset.fold IntOp.minsi 2147483647#32 (fun x : Fin 8 × Fin 1696 => @ite _ (A (ix2 x.1 x.2) = nbtR A (ix2 0 0)) (Classical.dec _) (IntOp.addi (wd x.2.val) 98304#32) 1073741824#32) Finset.univ := by
  refine (minRed2 _ _ _ _ _ (fun a b => by pointwise) i).trans ?_
  refine Finset.fold_congr fun x _ => ?_
  pointwise
  by_cases h : A (ix2 x.1 x.2) = nbtR A (ix2 0 0)
  · rw [if_pos h, if_pos h]
  · rw [if_neg h, if_neg h]

/-! ## The place's parts -/

section
variable {fm : IVec S1x1 32} {n : Nat} (hfm : fm (ix2 0 0) = wd n) (hn : n < 800000)
include hfm hn

/-- The beam of the round's place. -/
theorem kb_eq : kbR fm (ix2 0 0) = wd (n / 100000) := by
  rw [kbR, fdivV_apply, hfm]; exact fdivN (by norm_num) (by norm_num) (by omega)
/-- Its word. -/
theorem vb_eq : vbR fm (ix2 0 0) = wd (n % 100000) := by
  rw [vbR, fmodV_apply, hfm]; exact fmodN (by norm_num) (by norm_num) (by omega)
/-- The word's group. -/
theorem gb_eq : gbR fm (ix2 0 0) = wd (n % 100000 / 4096) := by
  rw [gbR, fdivV_apply, vb_eq hfm hn]; exact fdivN (by norm_num) (by norm_num) (by omega)
/-- The word's lane. -/
theorem lb_eq : lbR fm (ix2 0 0) = wd (n % 100000 % 128) := by
  rw [lbR, fmodV_apply, vb_eq hfm hn]; exact fmodN (by norm_num) (by norm_num) (by omega)
/-- Whether the group is the last. -/
theorem tail_eq : tailR fm (ix2 0 0) = BitVec.ofBool (decide (n % 100000 / 4096 = 24)) := by
  have e : tailR fm (ix2 0 0) = IntOp.cmpi .eq (gbR fm (ix2 0 0)) (wd 24) := rfl
  rw [e, gb_eq hfm hn, cmpi_eqN (by omega) (by norm_num)]
/-- Where the group's load starts. -/
theorem s_eq : sR fm = wd (min (n % 100000 / 4096) 23 * 4096) := by
  rw [sR, theWord_eq _ _ _ _ _ (ix2 0 0), gb_eq hfm hn]
  show IntOp.muli (IntOp.minsi (wd _) (wd 23)) (wd 4096) = _
  rw [minsiN (by omega) (by norm_num), muliN]
/-- Which row is the place's beam. -/
theorem row_eq (i : Fin 8) : rowR fm (ix2 i 0) = BitVec.ofBool (decide (i.val = n / 100000)) := by
  have e : rowR fm (ix2 i 0) = IntOp.cmpi .eq (wd i.val) (kbR fm (ix2 0 0)) := by pointwise [rowR]
  rw [e, kb_eq hfm hn, cmpi_eqN (by omega) (by omega)]

end

/-- A group's words are numbered. -/
theorem iotaD (i : Fin 8) (j : Fin 4096) : iota .tc S8x4096 32 [1] iota_S8x4096_d1_w32 (ix2 i j) = wd j.val := by pointwise
/-- The last group's words are numbered. -/
theorem iotaT (i : Fin 8) (j : Fin 1696) : iota .tc S8x1696 32 [1] iota_S8x1696_d1_w32 (ix2 i j) = wd j.val := by pointwise

section
variable (c : Dev nD) (M1 : Memref sig .tc .vmem S32x100000 .f32) (h1 : M1.IsWhole) (X1 : S32x100000.Idx → Elt Ideal .f32)
  (b : Nat) (hb : b < 4) (prm : FVec Ideal S8x1 .f32) (mx : FVec Ideal S1x1 .f32) {fm : IVec S1x1 32} {n : Nat} (hfm : fm (ix2 0 0) = wd n) (hn : n < 800000)

include hfm hn in
/-- An entry of the group's scores. -/
theorem xdR_apply (i : Fin 8) (l : Fin 4096) : xdR c M1 (h1.unread X1) b hb prm fm (ix2 i l)
    = xN X1 b i (min (n % 100000 / 4096) 23 * 4096 + l) + prm (ix2 i 0) := by
  have e : xdR c M1 (h1.unread X1) b hb prm fm (ix2 i l) = View.readAt (Elt Ideal) M1.view (Rect.unit (s := S32x100000) ![8 * b, (Scalar.indexCast (sR fm)).toNat] S8x4096.size
      (window_inb (8 * b) (by omega) _ _ _ _ _ fm)).toLoadRect (h1.unread X1) (ix2 i l) + prm (ix2 i 0) := by
    pointwise [xdR]
  have hs : (Scalar.indexCast (sR fm)).toNat = min (n % 100000 / 4096) 23 * 4096 := by
    rw [s_eq hfm hn]
    show (wd _).toNat = _
    exact WordArith.toNat_ofNat_of_lt _ (by omega)
  rw [e, ← hs]
  congr 1
  exact load1 M1 h1 X1 b hb _ 4096 _ (by omega) i l

/-- An entry of the last group's scores. -/
theorem xtR_apply (i : Fin 8) (l : Fin 1696) : xtR c M1 (h1.unread X1) b hb prm (ix2 i l) = xN X1 b i (98304 + l) + prm (ix2 i 0) := by
  have e : xtR c M1 (h1.unread X1) b hb prm (ix2 i l) = View.readAt (Elt Ideal) M1.view (Rect.unit (s := S32x100000) ![8 * b, 98304] S8x1696.size (inbL b hb)).toLoadRect (h1.unread X1) (ix2 i l) + prm (ix2 i 0) := by
    pointwise [xtR]
  rw [e]
  congr 1
  exact load1 M1 h1 X1 b hb _ 1696 _ (by omega) i l

include hfm hn in
open Classical in
/-- Of the group, what is kept: the column's words that come after the one taken. -/
theorem xmdR_apply (i : Fin 8) (l : Fin 4096) : xmdR c M1 (h1.unread X1) b hb prm mx fm (ix2 i l)
    = if (i.val = n / 100000 ∧ n % 100000 / 4096 ≠ 24) ∧ l.val % 128 = n % 100000 % 128 ∧
        (xdR c M1 (h1.unread X1) b hb prm fm (ix2 i l) < mx (ix2 0 0) ∨
          (xdR c M1 (h1.unread X1) b hb prm fm (ix2 i l) = mx (ix2 0 0) ∧ n % 100000 - min (n % 100000 / 4096) 23 * 4096 < l.val))
      then xdR c M1 (h1.unread X1) b hb prm fm (ix2 i l) else ⊥ := by
  have e : xmdR c M1 (h1.unread X1) b hb prm mx fm (ix2 i l)
      = Scalar.select (IntOp.andi (IntOp.andi (IntOp.andi (rowR fm (ix2 i 0)) (IntOp.xori (tailR fm (ix2 0 0)) 1#1))
            (IntOp.cmpi .eq (fmodW (wd 128) (iota .tc S8x4096 32 [1] iota_S8x4096_d1_w32 (ix2 i l))) (lbR fm (ix2 0 0))))
          (IntOp.ori (BitVec.ofBool (decide (xdR c M1 (h1.unread X1) b hb prm fm (ix2 i l) < mx (ix2 0 0))))
            (IntOp.andi (BitVec.ofBool (decide (xdR c M1 (h1.unread X1) b hb prm fm (ix2 i l) = mx (ix2 0 0))))
              (IntOp.cmpi .sgt (iota .tc S8x4096 32 [1] iota_S8x4096_d1_w32 (ix2 i l)) (IntOp.subi (vbR fm (ix2 0 0)) (sR fm))))))
          (xdR c M1 (h1.unread X1) b hb prm fm (ix2 i l)) (Ideal.ofBits .f32 4286578688#32) := by
    pointwise [xmdR]
    rw [fmodV_apply, iotaD]
  rw [e, iotaD, row_eq hfm hn, tail_eq hfm hn, lb_eq hfm hn, vb_eq hfm hn, s_eq hfm hn, fmodN (by norm_num) (by norm_num) (by omega),
    cmpi_eqN (by omega) (by omega), subiN (by omega), cmpi_sgtN (by omega) (by omega), xori_one]
  simp only [WordArith.andi_ofBool, WordArith.ori_ofBool, select_ofBool, Bool.and_eq_true, Bool.or_eq_true, decide_eq_true_eq, Bool.not_eq_true',
    decide_eq_false_iff_not, ofBits_ninf, and_assoc, ne_eq]

include hfm hn in
open Classical in
/-- The same in the last group. -/
theorem xmtR_apply (i : Fin 8) (l : Fin 1696) : xmtR c M1 (h1.unread X1) b hb prm mx fm (ix2 i l)
    = if (i.val = n / 100000 ∧ n % 100000 / 4096 = 24) ∧ l.val % 128 = n % 100000 % 128 ∧
        (xtR c M1 (h1.unread X1) b hb prm (ix2 i l) < mx (ix2 0 0) ∨
          (xtR c M1 (h1.unread X1) b hb prm (ix2 i l) = mx (ix2 0 0) ∧ n % 100000 - 98304 < l.val))
      then xtR c M1 (h1.unread X1) b hb prm (ix2 i l) else ⊥ := by
  have e : xmtR c M1 (h1.unread X1) b hb prm mx fm (ix2 i l)
      = Scalar.select (IntOp.andi (IntOp.andi (IntOp.andi (rowR fm (ix2 i 0)) (tailR fm (ix2 0 0)))
            (IntOp.cmpi .eq (fmodW (wd 128) (iota .tc S8x1696 32 [1] iota_S8x1696_d1_w32 (ix2 i l))) (lbR fm (ix2 0 0))))
          (IntOp.ori (BitVec.ofBool (decide (xtR c M1 (h1.unread X1) b hb prm (ix2 i l) < mx (ix2 0 0))))
            (IntOp.andi (BitVec.ofBool (decide (xtR c M1 (h1.unread X1) b hb prm (ix2 i l) = mx (ix2 0 0))))
              (IntOp.cmpi .sgt (iota .tc S8x1696 32 [1] iota_S8x1696_d1_w32 (ix2 i l)) (IntOp.subi (vbR fm (ix2 0 0)) (wd 98304))))))
          (xtR c M1 (h1.unread X1) b hb prm (ix2 i l)) (Ideal.ofBits .f32 4286578688#32) := by
    pointwise [xmtR]
    rw [fmodV_apply, iotaT]
  rw [e, iotaT, row_eq hfm hn, tail_eq hfm hn, lb_eq hfm hn, vb_eq hfm hn, fmodN (by norm_num) (by norm_num) (by omega),
    cmpi_eqN (by omega) (by omega)]
  by_cases hg : n % 100000 / 4096 = 24
  · rw [subiN (by omega), cmpi_sgtN (by omega) (by omega)]
    simp only [WordArith.andi_ofBool, WordArith.ori_ofBool, select_ofBool, Bool.and_eq_true, Bool.or_eq_true, decide_eq_true_eq, ofBits_ninf, and_assoc]
  · rw [if_neg (fun h => hg h.1.2)]
    generalize IntOp.ori _ _ = q
    simp only [hg, decide_false, WordArith.andi_ofBool, Bool.and_false, Bool.false_and]
    have : IntOp.andi (BitVec.ofBool false) q = 0#1 := by unfold IntOp.andi; simp
    rw [this, ofBits_ninf]
    rfl

end

/-! ## The refill -/

/-- A window's largest score still to be taken, and its column, of a beam still going. -/
theorem refill {W : Nat} {X1 : S32x100000.Idx → EReal} {X2 X3 : S4x8x1.Idx → EReal} {b n s m : Nat} {mx nb : EReal} (hn : n < 800000)
    (hu : Usable X1 X2 b) (he : ¬ eN X3 b (n / 100000)) (hmx : pS X1 X2 X3 b n = mx)
    (hs : s % 128 = 0) (hsW : s + W ≤ 100000) (hsn : s ≤ n % 100000) (hwin : ∀ v < 100000, v / 4096 = n % 100000 / 4096 ↔ s ≤ v ∧ v < s + W)
    (Xm X : Fin 8 → Fin W → EReal) (hX : ∀ i l, i.val = n / 100000 → X i l = xN X1 b i (s + l.val) + pN X2 b i)
    (hXm1 : ∀ i l, i.val = n / 100000 → l.val % 128 = n % 100000 % 128 → (X i l < mx ∨ (X i l = mx ∧ n % 100000 - s < l.val)) → Xm i l = X i l)
    (hXm0 : ∀ i l, ¬ (i.val = n / 100000 ∧ l.val % 128 = n % 100000 % 128 ∧ (X i l < mx ∨ (X i l = mx ∧ n % 100000 - s < l.val))) → Xm i l = ⊥)
    (hat : ∃ i l, Xm i l = nb ∧ l.val + s = m) (hle : ∀ i l, Xm i l ≤ nb) (hmin : ∀ i l, Xm i l = nb → m ≤ l.val + s)
    (hex : ∃ v < 100000, v / 4096 = (n % 100000) / 4096 ∧ v % 128 = (n % 100000) % 128 ∧ beats (pS X1 X2 X3 b) n (n / 100000 * 100000 + v)) :
    ⊥ < nb ∧ m < 100000 ∧ m / 4096 = (n % 100000) / 4096 ∧ m % 128 = (n % 100000) % 128 ∧ beats (pS X1 X2 X3 b) n (n / 100000 * 100000 + m) ∧
        nb = pS X1 X2 X3 b (n / 100000 * 100000 + m) ∧
        ∀ v < 100000, v / 4096 = (n % 100000) / 4096 → v % 128 = (n % 100000) % 128 → beats (pS X1 X2 X3 b) n (n / 100000 * 100000 + v) →
          v = m ∨ beats (pS X1 X2 X3 b) (n / 100000 * 100000 + m) (n / 100000 * 100000 + v) := by
  obtain ⟨k, hk⟩ : ∃ k : Fin 8, k.val = n / 100000 := ⟨⟨n / 100000, by omega⟩, rfl⟩
  have hXp : ∀ l : Fin W, X k l = pS X1 X2 X3 b (n / 100000 * 100000 + (s + l)) := by
    intro l
    rw [hX k l hk, hk, pS_going he (by omega)]
  have lane : ∀ v < 100000, v / 4096 = (n % 100000) / 4096 → v % 128 = (n % 100000) % 128 → beats (pS X1 X2 X3 b) n (n / 100000 * 100000 + v) →
      ∃ l : Fin W, s + l.val = v ∧ Xm k l = pS X1 X2 X3 b (n / 100000 * 100000 + v) := by
    intro v hv h1 h2 h3
    obtain ⟨w1, w2⟩ := (hwin v hv).mp h1
    refine ⟨⟨v - s, by omega⟩, by show s + (v - s) = v; omega, ?_⟩
    have e : X k ⟨v - s, by omega⟩ = pS X1 X2 X3 b (n / 100000 * 100000 + v) := by
      rw [hXp]; congr 2; show s + (v - s) = v; omega
    rw [hXm1 k _ hk (by show (v - s) % 128 = _; omega) ?_, e]
    rw [e, ← hmx]
    rcases h3 with h3 | ⟨h3, h4⟩
    · exact Or.inl h3
    · exact Or.inr ⟨h3, by show n % 100000 - s < v - s; omega⟩
  have hpos : ⊥ < nb := by
    obtain ⟨v, hv, h1, h2, h3⟩ := hex
    obtain ⟨l, -, e⟩ := lane v hv h1 h2 h3
    refine lt_of_lt_of_le ?_ (hle k l)
    rw [e]
    exact pS_pos hu _ (by rwa [show (n / 100000 * 100000 + v) / 100000 = n / 100000 by omega])
  obtain ⟨i, l, e1, e2⟩ := hat
  have hkeep : i.val = n / 100000 ∧ l.val % 128 = n % 100000 % 128 ∧ (X i l < mx ∨ (X i l = mx ∧ n % 100000 - s < l.val)) := by
    by_contra hc
    rw [hXm0 i l hc] at e1
    exact absurd e1 hpos.ne
  obtain ⟨k1, k2, k3⟩ := hkeep
  obtain rfl : k = i := Fin.ext (hk.trans k1.symm)
  have hl := l.isLt
  rw [hXm1 k l k1 k2 k3, hXp] at e1
  rw [hXp, ← hmx] at k3
  obtain rfl : m = s + l.val := by omega
  refine ⟨hpos, by omega, ((hwin _ (by omega)).mpr ⟨by omega, by omega⟩), by omega, ?_, e1.symm, fun v hv h1 h2 h3 => ?_⟩
  · rcases k3 with k3 | ⟨k3, k4⟩
    · exact Or.inl k3
    · exact Or.inr ⟨k3, by omega⟩
  · obtain ⟨l', e3, e4⟩ := lane v hv h1 h2 h3
    have h5 := hle k l'
    rw [e4, ← e1] at h5
    rcases h5.lt_or_eq with h5 | h5
    · exact Or.inr (Or.inl h5)
    · have h6 := hmin k l' (by rw [e4, h5, e1])
      rcases eq_or_ne v (s + l.val) with h7 | h7
      · exact Or.inl h7
      · exact Or.inr (Or.inr ⟨h5, by omega⟩)

end Cert.Proof.KernelIdeal

end
-- ==== Proof.Step.lean ====
/-
  One round, and the eight rounds.
-/
module

public import proofs.«01_k».proof.Proof.Round

@[expose] public section

set_option maxRecDepth 16384

noncomputable section

namespace Cert.Proof.KernelIdeal

open _root_.Cert.KernelIdeal _root_.Cert.KernelIdeal.Gen _root_.Cert.KernelIdeal.Facts

open Idealize.ShloMosaic
open Cert.Proof.Beam (beats sc Inv Live Dead inE)

/-- A word is the word of its number. -/
theorem wd_toNat (w : BitVec 32) : wd w.toNat = w := BitVec.ofNat_toNat 32 w |>.trans (BitVec.setWidth_eq w)

/-- The tables' places are candidates. -/
theorem plc_lt {p : Nat → EReal} {en : Nat → Prop} {A : Fin 8 → Fin 3200 → EReal} {φ : Fin 8 → Fin 3200 → Nat} {Q : Finset Nat}
    (h : Inv p en A φ Q) (i : Fin 8) (j : Fin 3200) : φ i j < 800000 :=
  (h.ent i j).elim Live.lt Dead.lt

/-- The largest entry and its least place. -/
theorem top_spec {p : Nat → EReal} {en : Nat → Prop} {A : FVec Ideal S8x3200 .f32} {P : IVec S8x3200 32} {Q : Finset Nat}
    (h : Inv p en (fun i j => A (ix2 i j)) (plc P) Q) : (∀ i j, A (ix2 i j) ≤ mxR A (ix2 0 0)) ∧
      (∃ i j, A (ix2 i j) = mxR A (ix2 0 0) ∧ plc P i j = (fmR A P (ix2 0 0)).toNat) ∧
      ∀ i j, A (ix2 i j) = mxR A (ix2 0 0) → (fmR A P (ix2 0 0)).toNat ≤ plc P i j := by
  obtain ⟨m, e, ⟨x, hx, hm⟩, hle, hmin⟩ := maxmin (fun x : Fin 8 × Fin 3200 => A (ix2 x.1 x.2)) (fun x => plc P x.1 x.2) (fun x => P (ix2 x.1 x.2))
    (fun x => (wd_toNat _).symm) (fun x => by have := plc_lt h x.1 x.2; omega) (mxR A (ix2 0 0)) (mxR_apply A _) (fun _ => Classical.dec _)
  have hf : (fmR A P (ix2 0 0)).toNat = m := by
    rw [fmR_apply, e, WordArith.toNat_ofNat_of_lt]
    have := plc_lt h x.1 x.2
    omega
  rw [hf]
  exact ⟨fun i j => hle (i, j), ⟨x.1, x.2, hx, hm⟩, fun i j hij => hmin (i, j) hij⟩

/-- The refilled entry's place, from its parts. -/
theorem nfR_apply (Xd : FVec Ideal S8x4096 .f32) (Xt : FVec Ideal S8x1696 .f32) (fm : IVec S1x1 32) : nfR Xd Xt fm (ix2 0 0)
    = IntOp.addi (IntOp.muli (kbR fm (ix2 0 0)) (wd 100000))
      (@ite _ (nbdR Xd (ix2 0 0) < nbtR Xt (ix2 0 0)) (Classical.dec _) (nvtR Xt (ix2 0 0)) (nvdR Xd (sR fm) (ix2 0 0))) := by
  rw [nfR]
  generalize nbtR Xt = x
  generalize nbdR Xd = y
  generalize nvtR Xt = u
  generalize nvdR Xd (sR fm) = v
  generalize kbR fm = k
  pointwise
  congr 1
  by_cases h : y (ix2 0 0) < x (ix2 0 0)
  · rw [if_pos h, if_pos h]
  · rw [if_neg h, if_neg h]

/-- A table after a round, at an entry. -/
theorem stepA_apply (c : Dev nD) (M1 : Memref sig .tc .vmem S32x100000 .f32) (f1 : Bf (F := Ideal) c M1) (b : Nat) (hb : b < 4) (prm : FVec Ideal S8x1 .f32)
    (A : FVec Ideal S8x3200 .f32) (P : IVec S8x3200 32) (i : Fin 8) (j : Fin 3200) : stepA c M1 f1 b hb prm A P (ix2 i j)
      = Scalar.select (IntOp.cmpi .eq (P (ix2 i j)) (fmR A P (ix2 0 0)))
        (nbR (xmdR c M1 f1 b hb prm (mxR A) (fmR A P)) (xmtR c M1 f1 b hb prm (mxR A) (fmR A P)) (ix2 0 0)) (A (ix2 i j)) := by
  rw [stepA]
  generalize nbR (xmdR c M1 f1 b hb prm (mxR A) (fmR A P)) (xmtR c M1 f1 b hb prm (mxR A) (fmR A P)) = nb
  generalize fmR A P = fm
  pointwise

/-- An entry of the next table of places. -/
theorem stepF_apply (c : Dev nD) (M1 : Memref sig .tc .vmem S32x100000 .f32) (f1 : Bf (F := Ideal) c M1) (b : Nat) (hb : b < 4) (prm : FVec Ideal S8x1 .f32)
    (A : FVec Ideal S8x3200 .f32) (P : IVec S8x3200 32) (i : Fin 8) (j : Fin 3200) : stepF c M1 f1 b hb prm A P (ix2 i j)
      = Scalar.select (IntOp.cmpi .eq (P (ix2 i j)) (fmR A P (ix2 0 0)))
        (nfR (xmdR c M1 f1 b hb prm (mxR A) (fmR A P)) (xmtR c M1 f1 b hb prm (mxR A) (fmR A P)) (fmR A P) (ix2 0 0)) (P (ix2 i j)) := by
  rw [stepF]
  generalize nfR (xmdR c M1 f1 b hb prm (mxR A) (fmR A P)) (xmtR c M1 f1 b hb prm (mxR A) (fmR A P)) (fmR A P) = nf
  generalize fmR A P = fm
  pointwise

section
variable (c : Dev nD) (M1 : Memref sig .tc .vmem S32x100000 .f32) (h1 : M1.IsWhole) (X1 : S32x100000.Idx → Elt Ideal .f32)
  (M2 M3 : Memref sig .tc .vmem S4x8x1 .f32) (h2 : M2.IsWhole) (h3 : M3.IsWhole) (X2 X3 : S4x8x1.Idx → Elt Ideal .f32)
  (MA : Memref sig .tc .vmem S8x3200 .f32) (MF : Memref sig .tc .vmem S8x3200 .i32)
  (b : Nat) (hb : b < 4)

set_option maxHeartbeats 2000000 in
/-- One round keeps the tables' meaning. -/
theorem step_inv (hu : Usable X1 X2 b) (A : FVec Ideal S8x3200 .f32) (P : IVec S8x3200 32) (Q : Finset Nat) (hQ : Q.card < 8)
    (h : Inv (pS X1 X2 X3 b) (eN X3 b) (fun i j => A (ix2 i j)) (plc P) Q) :
    Inv (pS X1 X2 X3 b) (eN X3 b) (fun i j => stepA c M1 (h1.unread X1) b hb (prmS c M2 M3 (h2.unread X2) (h3.unread X3) b hb) A P (ix2 i j))
      (plc (stepF c M1 (h1.unread X1) b hb (prmS c M2 M3 (h2.unread X2) (h3.unread X3) b hb) A P)) (insert (fmR A P (ix2 0 0)).toNat Q) := by
  obtain ⟨hle, hat, hmin⟩ := top_spec h
  have hpk := Beam.pick h hQ (fun k _ => pS_two hu k) hle hat hmin
  obtain ⟨⟨hn, hnQ, hpn, hpos⟩, -, -, -⟩ := hpk
  generalize hprm : prmS c M2 M3 (h2.unread X2) (h3.unread X3) b hb = prm
  have hprm' : ∀ i : Fin 8, prm (ix2 i 0) = @ite _ (eN X3 b i) (Classical.dec _) ⊥ (pN X2 b i) := fun i => by
    rw [← hprm]; exact prmS_apply c M2 M3 h2 h3 X2 X3 b hb i
  generalize hnn : (fmR A P (ix2 0 0)).toNat = n at *
  have hfm : fmR A P (ix2 0 0) = wd n := by rw [← hnn, wd_toNat]
  generalize hfmg : fmR A P = fm at *
  generalize hmxg : mxR A = mxv at *
  have hD := maxmin (fun x : Fin 8 × Fin 4096 => xmdR c M1 (h1.unread X1) b hb prm mxv fm (ix2 x.1 x.2)) (fun x => x.2.val + min (n % 100000 / 4096) 23 * 4096)
    (fun x => IntOp.addi (wd x.2.val) (sR fm)) (fun x => by rw [s_eq hfm hn, addiN]) (fun x => by have := x.2.isLt; omega) (nbdR (xmdR c M1 (h1.unread X1) b hb prm mxv fm) (ix2 0 0)) (nbdR_apply _ _) (fun _ => Classical.dec _)
  have hT := maxmin (fun x : Fin 8 × Fin 1696 => xmtR c M1 (h1.unread X1) b hb prm mxv fm (ix2 x.1 x.2)) (fun x => x.2.val + 98304)
    (fun x => IntOp.addi (wd x.2.val) 98304#32) (fun x => addiN _ _) (fun x => by have := x.2.isLt; omega) (nbtR (xmtR c M1 (h1.unread X1) b hb prm mxv fm) (ix2 0 0)) (nbtR_apply _ _) (fun _ => Classical.dec _)
  obtain ⟨mD, eD, ⟨xD, aD, bD⟩, leD, minD⟩ := hD
  obtain ⟨mT, eT, ⟨xT, aT, bT⟩, leT, minT⟩ := hT
  rw [← nvdR_apply] at eD
  rw [← nvtR_apply] at eT
  have hmD : mD < 2 ^ 20 := by have := xD.2.isLt; omega
  have hmT : mT < 2 ^ 20 := by have := xT.2.isLt; omega
  have rD := xmdR_apply c M1 h1 X1 b hb prm mxv hfm hn
  have rT := xmtR_apply c M1 h1 X1 b hb prm mxv hfm hn
  have vD := xdR_apply c M1 h1 X1 b hb prm hfm hn
  have vT := xtR_apply c M1 h1 X1 b hb prm
  obtain ⟨Xd, hXd⟩ : ∃ Xd, xmdR c M1 (h1.unread X1) b hb prm mxv fm = Xd := ⟨_, rfl⟩
  obtain ⟨Xt, hXt⟩ : ∃ Xt, xmtR c M1 (h1.unread X1) b hb prm mxv fm = Xt := ⟨_, rfl⟩
  obtain ⟨xd, hxd⟩ : ∃ xd, xdR c M1 (h1.unread X1) b hb prm fm = xd := ⟨_, rfl⟩
  obtain ⟨xt, hxt⟩ : ∃ xt, xtR c M1 (h1.unread X1) b hb prm = xt := ⟨_, rfl⟩
  simp only [hXd, hXt, hxd, hxt] at aD aT leD leT minD minT eD eT rD rT vD vT
  -- the refilled entry and its place
  have hnb : nbR Xd Xt (ix2 0 0) = max (nbdR Xd (ix2 0 0)) (nbtR Xt (ix2 0 0)) := rfl
  have hnf := nfR_apply Xd Xt fm
  rw [eD, eT, kb_eq hfm hn, muliN] at hnf
  -- what is left where a beam has ended, or in the window that is not the place's
  have zD : n % 100000 / 4096 = 24 → nbdR Xd (ix2 0 0) = ⊥ := fun hg => by
    rw [← aD]
    show Xd (ix2 xD.1 xD.2) = ⊥
    rw [rD, if_neg (fun hh => hh.1.2 hg)]
  have zT : n % 100000 / 4096 ≠ 24 → nbtR Xt (ix2 0 0) = ⊥ := fun hg => by
    rw [← aT]
    show Xt (ix2 xT.1 xT.2) = ⊥
    rw [rT, if_neg (fun hh => hg hh.1.2)]
  obtain ⟨nv, hnv⟩ : ∃ nv, nv = @ite _ (nbdR Xd (ix2 0 0) < nbtR Xt (ix2 0 0)) (Classical.dec _) mT mD := ⟨_, rfl⟩
  have hnf' : nfR Xd Xt fm (ix2 0 0) = wd (n / 100000 * 100000 + nv) := by
    rw [hnf, hnv]
    split <;> rw [addiN]
  have hnvlt : nv < 2 ^ 20 := by rw [hnv]; split <;> assumption
  have hpop : ∀ i j, IntOp.cmpi .eq (P (ix2 i j)) (wd n) = BitVec.ofBool (decide (plc P i j = n)) := fun i j => by
    have := plc_lt h i j
    rw [← cmpi_eqN (by omega) (by omega), show wd (plc P i j) = P (ix2 i j) from wd_toNat _]
  refine Beam.step h hQ (fun k _ => pS_two hu k) hle hat hmin (fun m _ hm => pS_pos hu m hm) (fun m _ h1 h2 => pS_bot m h1 h2)
    (nb := nbR Xd Xt (ix2 0 0)) (nv := nv) (fun i j => ?_) (fun i j => ?_) (fun he hex => ?_) (fun he hv2 => ?_)
  · have e : stepA c M1 (h1.unread X1) b hb prm A P (ix2 i j) = Scalar.select (IntOp.cmpi .eq (P (ix2 i j)) (fm (ix2 0 0))) (nbR Xd Xt (ix2 0 0)) (A (ix2 i j)) := by
      rw [stepA_apply, hmxg, hfmg, hXd, hXt]
    rw [e, hfm, hpop, select_ofBool]
    simp only [decide_eq_true_eq]
  · have e : stepF c M1 (h1.unread X1) b hb prm A P (ix2 i j) = Scalar.select (IntOp.cmpi .eq (P (ix2 i j)) (fm (ix2 0 0))) (nfR Xd Xt fm (ix2 0 0)) (P (ix2 i j)) := by
      rw [stepF_apply, hmxg, hfmg, hXd, hXt]
    rw [plc, e, hfm, hpop, select_ofBool, hnf']
    simp only [decide_eq_true_eq]
    split
    · exact WordArith.toNat_ofNat_of_lt _ (by omega)
    · rfl
  · by_cases hg : n % 100000 / 4096 = 24
    · have hr := refill (W := 1696) (s := 98304) (m := mT) (nb := nbtR Xt (ix2 0 0)) (mx := mxv (ix2 0 0)) hn hu he hpn (by norm_num) (by norm_num) (by omega) (fun v hv => by omega)
        (fun i l => Xt (ix2 i l)) (fun i l => xt (ix2 i l))
        (fun i l hi => by rw [vT, hprm', if_neg (hi ▸ he)])
        (fun i l k1 k2 k3 => by rw [rT, if_pos ⟨⟨k1, hg⟩, k2, k3⟩])
        (fun i l hh => by rw [rT, if_neg (fun hc => hh ⟨hc.1.1, hc.2.1, hc.2.2⟩)])
        ⟨xT.1, xT.2, aT, bT⟩ (fun i l => leT (i, l)) (fun i l hil => minT (i, l) hil) hex
      rw [hnb, zD hg, max_eq_right bot_le, show nv = mT by rw [hnv, zD hg, if_pos hr.1]]
      exact hr.2
    · have hr := refill (W := 4096) (s := min (n % 100000 / 4096) 23 * 4096) (m := mD) (nb := nbdR Xd (ix2 0 0)) (mx := mxv (ix2 0 0)) hn hu he hpn (by omega) (by omega) (by omega) (fun v hv => by omega)
        (fun i l => Xd (ix2 i l)) (fun i l => xd (ix2 i l))
        (fun i l hi => by rw [vD, hprm', if_neg (hi ▸ he)])
        (fun i l k1 k2 k3 => by rw [rD, if_pos ⟨⟨k1, hg⟩, k2, k3⟩])
        (fun i l hh => by rw [rD, if_neg (fun hc => hh ⟨hc.1.1, hc.2.1, hc.2.2⟩)])
        ⟨xD.1, xD.2, aD, bD⟩ (fun i l => leD (i, l)) (fun i l hil => minD (i, l) hil) hex
      rw [hnb, zT hg, max_eq_left bot_le, show nv = mD by rw [hnv, zT hg, if_neg not_lt_bot]]
      exact hr.2
  · have hg : n % 100000 / 4096 ≠ 24 := by omega
    have all : ∀ i l, Xd (ix2 i l) = ⊥ := fun i l => by
      rw [rD]
      split
      · rename_i hc
        rw [vD, hprm', if_pos (hc.1.1 ▸ he), EReal.add_bot]
      · rfl
    have hb' : nbdR Xd (ix2 0 0) = ⊥ := by rw [← aD]; exact all _ _
    have hm0 : mD = 0 := by
      have := minD (0, 0) ((all 0 0).trans hb'.symm)
      have hz : n % 100000 / 4096 = 0 := by omega
      simp [hz] at this
      exact this
    rw [hnb, hb', zT hg, show nv = 0 by rw [hnv, zT hg, if_neg not_lt_bot, hm0]]
    exact ⟨by simp, by norm_num, by norm_num⟩

end

end Cert.Proof.KernelIdeal

end
-- ==== Proof.Names.lean ====
/-
  The tables and the results of the body's run, round by round, are those of the specification.
-/
module

public import proofs.«01_k».proof.Proof.Spec
public import Mathlib.Tactic.IntervalCases

@[expose] public section

set_option maxRecDepth 16384
set_option maxHeartbeats 10000000

noncomputable section

namespace Cert.Proof.KernelIdeal

open _root_.Cert.KernelIdeal _root_.Cert.KernelIdeal.Gen _root_.Cert.KernelIdeal.Facts

open Idealize.ShloMosaic

variable {F : FTy → Type} [FloatOps F]

section
variable (c : Dev nD) (M1 : Memref sig .tc .vmem S32x100000 .f32) (f1 : Bf (F := F) c M1)
  (M2 M3 : Memref sig .tc .vmem S4x8x1 .f32) (f2 : Bf (F := F) c M2) (f3 : Bf (F := F) c M3)
  (M4 : Memref sig .tc .vmem S4x50x8 .i32) (f4 : Bf (F := F) c M4)
  (MA : Memref sig .tc .vmem S8x3200 .f32) (MF : Memref sig .tc .vmem S8x3200 .i32)

/-- One of four. -/
def pick4 {α : Sort*} (x0 x1 x2 x3 : α) : Nat → α
  | 0 => x0 | 1 => x1 | 2 => x2 | _ => x3

/-- One of eight. -/
def pick8 {α : Sort*} (x0 x1 x2 x3 x4 x5 x6 x7 : α) : Nat → α
  | 0 => x0 | 1 => x1 | 2 => x2 | 3 => x3 | 4 => x4 | 5 => x5 | 6 => x6 | _ => x7

/-- The table of maxima each round of each batch row loads. -/
def tabA : Nat → Nat → FVec F S8x3200 .f32 :=
  pick4 (pick8 (kernelRun.sl.v19432 c M1 M2 M3 MA f1 f2 f3) (kernelRun.sl.v20296 c M1 M2 M3 MA MF f1 f2 f3) (kernelRun.sl.v21160 c M1 M2 M3 MA MF f1 f2 f3) (kernelRun.sl.v22024 c M1 M2 M3 MA MF f1 f2 f3)
      (kernelRun.sl.v22888 c M1 M2 M3 MA MF f1 f2 f3) (kernelRun.sl.v23752 c M1 M2 M3 MA MF f1 f2 f3) (kernelRun.sl.v24616 c M1 M2 M3 MA MF f1 f2 f3) (kernelRun.sl.v25480 c M1 M2 M3 MA MF f1 f2 f3))
    (pick8 (kernelRun.sl.v19434 c M1 M2 M3 MA f1 f2 f3) (kernelRun.sl.v20298 c M1 M2 M3 MA MF f1 f2 f3) (kernelRun.sl.v21162 c M1 M2 M3 MA MF f1 f2 f3) (kernelRun.sl.v22026 c M1 M2 M3 MA MF f1 f2 f3)
      (kernelRun.sl.v22890 c M1 M2 M3 MA MF f1 f2 f3) (kernelRun.sl.v23754 c M1 M2 M3 MA MF f1 f2 f3) (kernelRun.sl.v24618 c M1 M2 M3 MA MF f1 f2 f3) (kernelRun.sl.v25482 c M1 M2 M3 MA MF f1 f2 f3))
    (pick8 (kernelRun.sl.v19436 c M1 M2 M3 MA f1 f2 f3) (kernelRun.sl.v20300 c M1 M2 M3 MA MF f1 f2 f3) (kernelRun.sl.v21164 c M1 M2 M3 MA MF f1 f2 f3) (kernelRun.sl.v22028 c M1 M2 M3 MA MF f1 f2 f3)
      (kernelRun.sl.v22892 c M1 M2 M3 MA MF f1 f2 f3) (kernelRun.sl.v23756 c M1 M2 M3 MA MF f1 f2 f3) (kernelRun.sl.v24620 c M1 M2 M3 MA MF f1 f2 f3) (kernelRun.sl.v25484 c M1 M2 M3 MA MF f1 f2 f3))
    (pick8 (kernelRun.sl.v19438 c M1 M2 M3 MA f1 f2 f3) (kernelRun.sl.v20302 c M1 M2 M3 MA MF f1 f2 f3) (kernelRun.sl.v21166 c M1 M2 M3 MA MF f1 f2 f3) (kernelRun.sl.v22030 c M1 M2 M3 MA MF f1 f2 f3)
      (kernelRun.sl.v22894 c M1 M2 M3 MA MF f1 f2 f3) (kernelRun.sl.v23758 c M1 M2 M3 MA MF f1 f2 f3) (kernelRun.sl.v24622 c M1 M2 M3 MA MF f1 f2 f3) (kernelRun.sl.v25486 c M1 M2 M3 MA MF f1 f2 f3))

/-- The table of places each round of each batch row loads. -/
def tabF : Nat → Nat → IVec S8x3200 32 :=
  pick4 (pick8 (kernelRun.sl.v19433 c M1 M3 MF f1 f3) (kernelRun.sl.v20297 c M1 M2 M3 MA MF f1 f2 f3) (kernelRun.sl.v21161 c M1 M2 M3 MA MF f1 f2 f3) (kernelRun.sl.v22025 c M1 M2 M3 MA MF f1 f2 f3)
      (kernelRun.sl.v22889 c M1 M2 M3 MA MF f1 f2 f3) (kernelRun.sl.v23753 c M1 M2 M3 MA MF f1 f2 f3) (kernelRun.sl.v24617 c M1 M2 M3 MA MF f1 f2 f3) (kernelRun.sl.v25481 c M1 M2 M3 MA MF f1 f2 f3))
    (pick8 (kernelRun.sl.v19435 c M1 M3 MF f1 f3) (kernelRun.sl.v20299 c M1 M2 M3 MA MF f1 f2 f3) (kernelRun.sl.v21163 c M1 M2 M3 MA MF f1 f2 f3) (kernelRun.sl.v22027 c M1 M2 M3 MA MF f1 f2 f3)
      (kernelRun.sl.v22891 c M1 M2 M3 MA MF f1 f2 f3) (kernelRun.sl.v23755 c M1 M2 M3 MA MF f1 f2 f3) (kernelRun.sl.v24619 c M1 M2 M3 MA MF f1 f2 f3) (kernelRun.sl.v25483 c M1 M2 M3 MA MF f1 f2 f3))
    (pick8 (kernelRun.sl.v19437 c M1 M3 MF f1 f3) (kernelRun.sl.v20301 c M1 M2 M3 MA MF f1 f2 f3) (kernelRun.sl.v21165 c M1 M2 M3 MA MF f1 f2 f3) (kernelRun.sl.v22029 c M1 M2 M3 MA MF f1 f2 f3)
      (kernelRun.sl.v22893 c M1 M2 M3 MA MF f1 f2 f3) (kernelRun.sl.v23757 c M1 M2 M3 MA MF f1 f2 f3) (kernelRun.sl.v24621 c M1 M2 M3 MA MF f1 f2 f3) (kernelRun.sl.v25485 c M1 M2 M3 MA MF f1 f2 f3))
    (pick8 (kernelRun.sl.v19439 c M1 M3 MF f1 f3) (kernelRun.sl.v20303 c M1 M2 M3 MA MF f1 f2 f3) (kernelRun.sl.v21167 c M1 M2 M3 MA MF f1 f2 f3) (kernelRun.sl.v22031 c M1 M2 M3 MA MF f1 f2 f3)
      (kernelRun.sl.v22895 c M1 M2 M3 MA MF f1 f2 f3) (kernelRun.sl.v23759 c M1 M2 M3 MA MF f1 f2 f3) (kernelRun.sl.v24623 c M1 M2 M3 MA MF f1 f2 f3) (kernelRun.sl.v25487 c M1 M2 M3 MA MF f1 f2 f3))

/-- The first table of scores under its name. -/
theorem tabA_zero (b : Nat) (hb : b < 4) : tabA c M1 f1 M2 M3 f2 f3 MA MF b 0 = initA c M1 f1 M2 M3 f2 f3 MA b hb := by
  interval_cases b <;> (refine Eq.trans (by dsimp only [tabA, tabF, pick4, pick8]; exact View.readCov_cons_toLoadRect ..) rfl)

/-- The first table of places under its name. -/
theorem tabF_zero (b : Nat) (hb : b < 4) : tabF c M1 f1 M2 M3 f2 f3 MA MF b 0 = initF c M1 f1 M3 f3 MF b hb := by
  interval_cases b <;> (refine Eq.trans (by dsimp only [tabA, tabF, pick4, pick8]; exact View.readCov_cons_toLoadRect ..) rfl)

/-- The next table of scores is a step from the last two. -/
theorem tabA_succ (b : Nat) (hb : b < 4) (r : Nat) (hr : r < 7) : tabA c M1 f1 M2 M3 f2 f3 MA MF b (r + 1)
    = stepA c M1 f1 b hb (prmS c M2 M3 f2 f3 b hb) (tabA c M1 f1 M2 M3 f2 f3 MA MF b r) (tabF c M1 f1 M2 M3 f2 f3 MA MF b r) := by
  interval_cases b <;> interval_cases r <;>
    (refine Eq.trans (by dsimp only [tabA, tabF, pick4, pick8, Nat.reduceAdd]; exact View.readCov_cons_toLoadRect ..) rfl)

/-- The next table of places is a step from the last two. -/
theorem tabF_succ (b : Nat) (hb : b < 4) (r : Nat) (hr : r < 7) : tabF c M1 f1 M2 M3 f2 f3 MA MF b (r + 1)
    = stepF c M1 f1 b hb (prmS c M2 M3 f2 f3 b hb) (tabA c M1 f1 M2 M3 f2 f3 MA MF b r) (tabF c M1 f1 M2 M3 f2 f3 MA MF b r) := by
  interval_cases b <;> interval_cases r <;>
    (refine Eq.trans (by dsimp only [tabA, tabF, pick4, pick8, Nat.reduceAdd]; exact View.readCov_cons_toLoadRect ..) rfl)

/-- The two tables of the specification before round `r`. -/
def tabs (b : Nat) (hb : b < 4) : Nat → FVec F S8x3200 .f32 × IVec S8x3200 32
  | 0 => (initA c M1 f1 M2 M3 f2 f3 MA b hb, initF c M1 f1 M3 f3 MF b hb)
  | r + 1 => (stepA c M1 f1 b hb (prmS c M2 M3 f2 f3 b hb) (tabs b hb r).1 (tabs b hb r).2,
      stepF c M1 f1 b hb (prmS c M2 M3 f2 f3 b hb) (tabs b hb r).1 (tabs b hb r).2)

/-- The tables of every round are the steps from the first. -/
theorem tab_eq (b : Nat) (hb : b < 4) (r : Nat) (hr : r < 8) :
    (tabs c M1 f1 M2 M3 f2 f3 MA MF b hb r) = (tabA c M1 f1 M2 M3 f2 f3 MA MF b r, tabF c M1 f1 M2 M3 f2 f3 MA MF b r) := by
  induction r with
  | zero => rw [tabs, tabA_zero _ _ _ _ _ _ _ _ _ b hb, tabF_zero _ _ _ _ _ _ _ _ _ b hb]
  | succ r ih =>
    rw [tabs, ih (by omega), tabA_succ _ _ _ _ _ _ _ _ _ b hb r (by omega), tabF_succ _ _ _ _ _ _ _ _ _ b hb r (by omega)]

/-- The score taken in round `r`. -/
def mxT (b : Nat) (hb : b < 4) (r : Nat) : FVec F S1x1 .f32 := mxR (tabs c M1 f1 M2 M3 f2 f3 MA MF b hb r).1
/-- The place taken in round `r`. -/
def fmT (b : Nat) (hb : b < 4) (r : Nat) : IVec S1x1 32 := fmR (tabs c M1 f1 M2 M3 f2 f3 MA MF b hb r).1 (tabs c M1 f1 M2 M3 f2 f3 MA MF b hb r).2

/-- The scores taken. -/
def mvT (b : Nat) (hb : b < 4) : FVec F S1x8 .f32 := mvecR (mxT c M1 f1 M2 M3 f2 f3 MA MF b hb) 8
/-- The places taken. -/
def fvT (b : Nat) (hb : b < 4) : IVec S1x8 32 := fvecR (fmT c M1 f1 M2 M3 f2 f3 MA MF b hb) 8

/-- The vector of scores depends on the rounds that it holds. -/
theorem mvecR_congr (m m' : Nat → FVec F S1x1 .f32) (n : Nat) (h : ∀ r < n, m r = m' r) : mvecR m n = mvecR m' n := by
  induction n with
  | zero => rfl
  | succ n ih => rw [mvecR, mvecR, h n (by omega), ih fun r hr => h r (by omega)]

/-- The vector of places depends on the rounds that it holds. -/
theorem fvecR_congr (m m' : Nat → IVec S1x1 32) (n : Nat) (h : ∀ r < n, m r = m' r) : fvecR m n = fvecR m' n := by
  induction n with
  | zero => rfl
  | succ n ih => rw [fvecR, fvecR, h n (by omega), ih fun r hr => h r (by omega)]

/-- The named final vectors of the four batch rows. -/
def mvN : Nat → FVec F S1x8 .f32 :=
  pick4 (kernelRun.sl.v26248 c M1 M2 M3 MA MF f1 f2 f3) (kernelRun.sl.v26278 c M1 M2 M3 MA MF f1 f2 f3) (kernelRun.sl.v26308 c M1 M2 M3 MA MF f1 f2 f3) (kernelRun.sl.v26338 c M1 M2 M3 MA MF f1 f2 f3)
def fvN : Nat → IVec S1x8 32 :=
  pick4 (kernelRun.sl.v26253 c M1 M2 M3 MA MF f1 f2 f3) (kernelRun.sl.v26283 c M1 M2 M3 MA MF f1 f2 f3) (kernelRun.sl.v26313 c M1 M2 M3 MA MF f1 f2 f3) (kernelRun.sl.v26343 c M1 M2 M3 MA MF f1 f2 f3)

/-- The body's vector of scores is that of the steps. -/
theorem mvN_eq (b : Nat) (hb : b < 4) : mvN c M1 f1 M2 M3 f2 f3 MA MF b = mvT c M1 f1 M2 M3 f2 f3 MA MF b hb := by
  have h : ∀ r < 8, mxT c M1 f1 M2 M3 f2 f3 MA MF b hb r = mxR (tabA c M1 f1 M2 M3 f2 f3 MA MF b r) := fun r hr => by
    rw [mxT, tab_eq _ _ _ _ _ _ _ _ _ _ _ _ hr]
  rw [mvT, mvecR_congr _ _ 8 h]
  interval_cases b <;> rfl

/-- The body's vector of places is that of the steps. -/
theorem fvN_eq (b : Nat) (hb : b < 4) : fvN c M1 f1 M2 M3 f2 f3 MA MF b = fvT c M1 f1 M2 M3 f2 f3 MA MF b hb := by
  have h : ∀ r < 8, fmT c M1 f1 M2 M3 f2 f3 MA MF b hb r = fmR (tabA c M1 f1 M2 M3 f2 f3 MA MF b r) (tabF c M1 f1 M2 M3 f2 f3 MA MF b r) := fun r hr => by
    rw [fmT, tab_eq _ _ _ _ _ _ _ _ _ _ _ _ hr]
  rw [fvT, fvecR_congr _ _ 8 h]
  interval_cases b <;> rfl

end

end Cert.Proof.KernelIdeal

end
-- ==== Proof.Eight.lean ====
/-
  The eight rounds of a batch row take its best eight candidates, in order.
-/
module

public import proofs.«01_k».proof.Proof.Step
public import proofs.«01_k».proof.Proof.Names

@[expose] public section

set_option maxRecDepth 16384

noncomputable section

namespace Cert.Proof.KernelIdeal

open _root_.Cert.KernelIdeal _root_.Cert.KernelIdeal.Gen _root_.Cert.KernelIdeal.Facts

open Idealize.ShloMosaic
open Cert.Proof.Beam (beats sc Inv Live Dead inE Best)

/-- The lanes are numbered. -/
theorem lane8 (l : Fin 8) : iota .tc S1x8 32 [1] iota_S1x8_d1_w32 (ix2 0 l) = wd l.val := by pointwise

/-- A round puts its score in its own lane of the vector of scores. -/
theorem mvecR_succ (mx : Nat → FVec Ideal S1x1 .f32) (n : Nat) (hn : n < 8) (l : Fin 8) :
    mvecR mx (n + 1) (ix2 0 l) = if l.val = n then mx n (ix2 0 0) else mvecR mx n (ix2 0 l) := by
  have e : mvecR mx (n + 1) (ix2 0 l) = Scalar.select (IntOp.cmpi .eq (iota .tc S1x8 32 [1] iota_S1x8_d1_w32 (ix2 0 l)) (wd n)) (mx n (ix2 0 0)) (mvecR mx n (ix2 0 l)) := by
    rw [mvecR]; pointwise
  rw [e, lane8, cmpi_eqN (by omega) (by omega), select_ofBool]
  simp only [decide_eq_true_eq]

/-- A round puts its place in its own lane of the vector of places. -/
theorem fvecR_succ (fm : Nat → IVec S1x1 32) (n : Nat) (hn : n < 8) (l : Fin 8) :
    fvecR fm (n + 1) (ix2 0 l) = if l.val = n then fm n (ix2 0 0) else fvecR fm n (ix2 0 l) := by
  have e : fvecR fm (n + 1) (ix2 0 l) = Scalar.select (IntOp.cmpi .eq (iota .tc S1x8 32 [1] iota_S1x8_d1_w32 (ix2 0 l)) (wd n)) (fm n (ix2 0 0)) (fvecR fm n (ix2 0 l)) := by
    rw [fvecR]; pointwise
  rw [e, lane8, cmpi_eqN (by omega) (by omega), select_ofBool]
  simp only [decide_eq_true_eq]

/-- A lane of the scores is its round's score. -/
theorem mvecR_apply (mx : Nat → FVec Ideal S1x1 .f32) (l : Fin 8) : ∀ n ≤ 8, l.val < n → mvecR mx n (ix2 0 l) = mx l (ix2 0 0)
  | n + 1, hn, hl => by
    rw [mvecR_succ mx n (by omega)]
    split
    · rename_i h; rw [h]
    · exact mvecR_apply mx l n (by omega) (by omega)

/-- A lane of the places is its round's place. -/
theorem fvecR_apply (fm : Nat → IVec S1x1 32) (l : Fin 8) : ∀ n ≤ 8, l.val < n → fvecR fm n (ix2 0 l) = fm l (ix2 0 0)
  | n + 1, hn, hl => by
    rw [fvecR_succ fm n (by omega)]
    split
    · rename_i h; rw [h]
    · exact fvecR_apply fm l n (by omega) (by omega)

section
variable (c : Dev nD) (M1 : Memref sig .tc .vmem S32x100000 .f32) (h1 : M1.IsWhole) (X1 : S32x100000.Idx → Elt Ideal .f32)
  (M2 M3 : Memref sig .tc .vmem S4x8x1 .f32) (h2 : M2.IsWhole) (h3 : M3.IsWhole) (X2 X3 : S4x8x1.Idx → Elt Ideal .f32)
  (MA : Memref sig .tc .vmem S8x3200 .f32) (MF : Memref sig .tc .vmem S8x3200 .i32)
  (b : Nat) (hb : b < 4)

/-- The eight candidates, their scores, and the kernel's vectors of both. -/
theorem eight (hu : Usable X1 X2 b) : ∃ n : Nat → Nat, Best (pS X1 X2 X3 b) n ∧
    (∀ l : Fin 8, mvT c M1 (h1.unread X1) M2 M3 (h2.unread X2) (h3.unread X3) MA MF b hb (ix2 0 l) = pS X1 X2 X3 b (n l)) ∧
    ∀ l : Fin 8, fvT c M1 (h1.unread X1) M2 M3 (h2.unread X2) (h3.unread X3) MA MF b hb (ix2 0 l) = wd (n l) := by
  have hz : tabs c M1 (h1.unread X1) M2 M3 (h2.unread X2) (h3.unread X3) MA MF b hb 0
      = (initA c M1 (h1.unread X1) M2 M3 (h2.unread X2) (h3.unread X3) MA b hb, initF c M1 (h1.unread X1) M3 (h3.unread X3) MF b hb) := rfl
  have hs : ∀ r, tabs c M1 (h1.unread X1) M2 M3 (h2.unread X2) (h3.unread X3) MA MF b hb (r + 1)
      = (stepA c M1 (h1.unread X1) b hb (prmS c M2 M3 (h2.unread X2) (h3.unread X3) b hb) (tabs c M1 (h1.unread X1) M2 M3 (h2.unread X2) (h3.unread X3) MA MF b hb r).1 (tabs c M1 (h1.unread X1) M2 M3 (h2.unread X2) (h3.unread X3) MA MF b hb r).2,
         stepF c M1 (h1.unread X1) b hb (prmS c M2 M3 (h2.unread X2) (h3.unread X3) b hb) (tabs c M1 (h1.unread X1) M2 M3 (h2.unread X2) (h3.unread X3) MA MF b hb r).1 (tabs c M1 (h1.unread X1) M2 M3 (h2.unread X2) (h3.unread X3) MA MF b hb r).2) := fun r => rfl
  unfold mvT fvT mxT fmT
  generalize tabs c M1 (h1.unread X1) M2 M3 (h2.unread X2) (h3.unread X3) MA MF b hb = T at hz hs ⊢
  have h0 : Inv (pS X1 X2 X3 b) (eN X3 b) (fun i j => (T 0).1 (ix2 i j)) (plc (T 0).2) ∅ := by
    rw [hz]; exact init_inv c M1 h1 X1 M2 M3 h2 h3 X2 X3 MA MF b hb hu
  have h1 : ∀ r < 8, ∀ Q, Inv (pS X1 X2 X3 b) (eN X3 b) (fun i j => (T r).1 (ix2 i j)) (plc (T r).2) Q → Q.card < 8 →
      Inv (pS X1 X2 X3 b) (eN X3 b) (fun i j => (T (r + 1)).1 (ix2 i j)) (plc (T (r + 1)).2) (insert (fmR (T r).1 (T r).2 (ix2 0 0)).toNat Q) := by
    intro r _ Q hI hQ
    rw [hs]
    have hh := step_inv c M1 h1 X1 M2 M3 h2 h3 X2 X3 b hb hu (T r).1 (T r).2 Q hQ hI
    dsimp only
    exact hh
  have hr := Beam.rounds (p := pS X1 X2 X3 b) (en := eN X3 b) (fun r i j => (T r).1 (ix2 i j)) (fun r => plc (T r).2)
    (fun r => mxR (T r).1 (ix2 0 0)) (fun r => (fmR (T r).1 (T r).2 (ix2 0 0)).toNat)
    h0 (fun k _ => pS_two hu k) (fun r _ Q hI => top_spec hI) (fun r hr Q hI hQ _ _ _ => h1 r hr Q hI hQ)
  refine ⟨_, hr.1, fun l => ?_, fun l => ?_⟩
  · rw [mvecR_apply _ l 8 le_rfl l.isLt]
    exact hr.2 l.val l.isLt
  · rw [fvecR_apply _ l 8 le_rfl l.isLt, wd_toNat]

end

end Cert.Proof.KernelIdeal

end
-- ==== Proof.Outs.lean ====
/-
  What the body's run leaves in the result blocks, read at an entry: the stores of the four batch rows, each at its own
  row, are the scores, the places' tokens and beams, the flags and the histories of the specification.
-/
module

public import proofs.«01_k».proof.Proof.Names
public import Idealize.ShloMosaic.Lib.Pipeline.Value
public import Idealize.ShloMosaic.Lib.Pointwise

@[expose] public section

set_option maxRecDepth 16384
set_option maxHeartbeats 4000000

noncomputable section

namespace Cert.Proof.KernelIdeal

open _root_.Cert.KernelIdeal _root_.Cert.KernelIdeal.Gen _root_.Cert.KernelIdeal.Facts

open Idealize.ShloMosaic

section
variable {Val : EltTy → Type} [∀ e, Nonempty (Val e)] {e : EltTy}

/-- Row `k` of four lies inside the result blocks. -/
theorem inbR (k : Nat) (hk : k < 4) : ∀ a : Fin 3, (![k, 0, 0] : Fin 3 → Nat) a + S1x1x8.size a ≤ S4x1x8.size a := by
  intro a; fin_cases a <;> simp [S1x1x8, S4x1x8]; omega
/-- A row's histories lie in the block. -/
theorem inbO (k : Nat) (hk : k < 4) : ∀ a : Fin 3, (![k, 0, 0] : Fin 3 → Nat) a + S1x50x8.size a ≤ S4x51x8.size a := by
  intro a; fin_cases a <;> simp [S1x50x8, S4x51x8]; omega
/-- A row's new words lie in the block. -/
theorem inbV (k : Nat) (hk : k < 4) : ∀ a : Fin 3, (![k, 50, 0] : Fin 3 → Nat) a + S1x1x8.size a ≤ S4x51x8.size a := by
  intro a; fin_cases a <;> simp [S1x1x8, S4x51x8]; omega

/-- A store at row `k` read at row `k`. -/
theorem row_hit (k : Nat) (hk : k < 4) (w : S1x1x8.Idx → Val e) (L : List (View.Piece Val S4x1x8 e)) (l : Fin 8) :
    View.canon (⟨Rect.unit (s := S4x1x8) ![k, 0, 0] S1x1x8.size (inbR k hk), w⟩ :: L) (ix3 ⟨k, hk⟩ 0 l) = w (ix3 0 0 l) := by
  refine (congrArg _ ?_).trans (View.canon_cons_emb (Rect.unit (s := S4x1x8) ![k, 0, 0] S1x1x8.size (inbR k hk)) w L (ix3 0 0 l))
  funext a
  fin_cases a
  · exact Fin.ext (show k = k + 1 * 0 by omega)
  · exact Fin.ext (show 0 = 0 + 1 * 0 by omega)
  · exact Fin.ext (show l.val = 0 + 1 * l.val by omega)

/-- A store at row `k` read at another row. -/
theorem row_miss (k j : Nat) (hk : k < 4) (hj : j < 4) (hjk : j < k) (w : S1x1x8.Idx → Val e) (L : List (View.Piece Val S4x1x8 e)) (l : Fin 8) :
    View.canon (⟨Rect.unit (s := S4x1x8) ![k, 0, 0] S1x1x8.size (inbR k hk), w⟩ :: L) (ix3 ⟨j, hj⟩ 0 l) = View.canon L (ix3 ⟨j, hj⟩ 0 l) := by
  refine View.canon_cons_of_not_mem (⟨Rect.unit (s := S4x1x8) ![k, 0, 0] S1x1x8.size (inbR k hk), w⟩ : View.Piece Val S4x1x8 e) L ?_
  rw [Rect.mem_set_unit]
  intro h
  have := (h 0).1
  have h' : k ≤ j := this
  omega

/-- The stores of the four rows read at row `b`. -/
theorem four_rows (w0 w1 w2 w3 : S1x1x8.Idx → Val e) (b : Nat) (hb : b < 4) (l : Fin 8) :
    View.canon [⟨Rect.unit (s := S4x1x8) ![3, 0, 0] S1x1x8.size (inbR 3 (by decide)), w3⟩,
      ⟨Rect.unit (s := S4x1x8) ![2, 0, 0] S1x1x8.size (inbR 2 (by decide)), w2⟩,
      ⟨Rect.unit (s := S4x1x8) ![1, 0, 0] S1x1x8.size (inbR 1 (by decide)), w1⟩,
      ⟨Rect.unit (s := S4x1x8) ![0, 0, 0] S1x1x8.size (inbR 0 (by decide)), w0⟩] (ix3 ⟨b, hb⟩ 0 l)
      = pick4 w0 w1 w2 w3 b (ix3 0 0 l) := by
  interval_cases b
  · exact (row_miss 3 0 (by decide) (by decide) (by decide) _ _ l).trans <| (row_miss 2 0 (by decide) (by decide) (by decide) _ _ l).trans <| (row_miss 1 0 (by decide) (by decide) (by decide) _ _ l).trans <| (row_hit 0 (by decide) _ _ l)
  · exact (row_miss 3 1 (by decide) (by decide) (by decide) _ _ l).trans <| (row_miss 2 1 (by decide) (by decide) (by decide) _ _ l).trans <| (row_hit 1 (by decide) _ _ l)
  · exact (row_miss 3 2 (by decide) (by decide) (by decide) _ _ l).trans <| (row_hit 2 (by decide) _ _ l)
  · exact (row_hit 3 (by decide) _ _ l)

/-- A row's histories, read at the row. -/
theorem hist_hit (k : Nat) (hk : k < 4) (w : S1x1x8.Idx → Val e) (u : S1x50x8.Idx → Val e) (L : List (View.Piece Val S4x51x8 e)) (i : Fin 51) (l : Fin 8) :
    View.canon (⟨Rect.unit (s := S4x51x8) ![k, 50, 0] S1x1x8.size (inbV k hk), w⟩ :: ⟨Rect.unit (s := S4x51x8) ![k, 0, 0] S1x50x8.size (inbO k hk), u⟩ :: L) (ix3 ⟨k, hk⟩ i l)
      = if h : i.val < 50 then u (ix3 0 ⟨i.val, h⟩ l) else w (ix3 0 0 l) := by
  split
  · rename_i h
    rw [View.canon_cons_of_not_mem (⟨Rect.unit (s := S4x51x8) ![k, 50, 0] S1x1x8.size (inbV k hk), w⟩ : View.Piece Val S4x51x8 e)]
    · refine (congrArg _ ?_).trans (View.canon_cons_emb (Rect.unit (s := S4x51x8) ![k, 0, 0] S1x50x8.size (inbO k hk)) u L (ix3 0 ⟨i.val, h⟩ l))
      funext a
      fin_cases a
      · exact Fin.ext (show k = k + 1 * 0 by omega)
      · exact Fin.ext (show i.val = 0 + 1 * i.val by omega)
      · exact Fin.ext (show l.val = 0 + 1 * l.val by omega)
    · rw [Rect.mem_set_unit]
      intro q
      have := (q 1).1
      have h' : 50 ≤ i.val := this
      omega
  · rename_i h
    refine (congrArg _ ?_).trans (View.canon_cons_emb (Rect.unit (s := S4x51x8) ![k, 50, 0] S1x1x8.size (inbV k hk)) w _ (ix3 0 0 l))
    funext a
    fin_cases a
    · exact Fin.ext (show k = k + 1 * 0 by omega)
    · exact Fin.ext (show i.val = 50 + 1 * 0 by omega)
    · exact Fin.ext (show l.val = 0 + 1 * l.val by omega)

/-- A row's histories, read at another row. -/
theorem hist_miss (k j : Nat) (hk : k < 4) (hj : j < 4) (hjk : j < k) (w : S1x1x8.Idx → Val e) (u : S1x50x8.Idx → Val e) (L : List (View.Piece Val S4x51x8 e)) (i : Fin 51) (l : Fin 8) :
    View.canon (⟨Rect.unit (s := S4x51x8) ![k, 50, 0] S1x1x8.size (inbV k hk), w⟩ :: ⟨Rect.unit (s := S4x51x8) ![k, 0, 0] S1x50x8.size (inbO k hk), u⟩ :: L) (ix3 ⟨j, hj⟩ i l)
      = View.canon L (ix3 ⟨j, hj⟩ i l) := by
  rw [View.canon_cons_of_not_mem (⟨Rect.unit (s := S4x51x8) ![k, 50, 0] S1x1x8.size (inbV k hk), w⟩ : View.Piece Val S4x51x8 e),
    View.canon_cons_of_not_mem (⟨Rect.unit (s := S4x51x8) ![k, 0, 0] S1x50x8.size (inbO k hk), u⟩ : View.Piece Val S4x51x8 e)]
  all_goals
    rw [Rect.mem_set_unit]
    intro q
    have := (q 0).1
    have h' : k ≤ j := this
    omega

/-- The histories of the four rows read at row `b`. -/
theorem four_hist (w0 w1 w2 w3 : S1x1x8.Idx → Val e) (u0 u1 u2 u3 : S1x50x8.Idx → Val e) (b : Nat) (hb : b < 4) (i : Fin 51) (l : Fin 8) :
    View.canon [⟨Rect.unit (s := S4x51x8) ![3, 50, 0] S1x1x8.size (inbV 3 (by decide)), w3⟩, ⟨Rect.unit (s := S4x51x8) ![3, 0, 0] S1x50x8.size (inbO 3 (by decide)), u3⟩,
      ⟨Rect.unit (s := S4x51x8) ![2, 50, 0] S1x1x8.size (inbV 2 (by decide)), w2⟩, ⟨Rect.unit (s := S4x51x8) ![2, 0, 0] S1x50x8.size (inbO 2 (by decide)), u2⟩,
      ⟨Rect.unit (s := S4x51x8) ![1, 50, 0] S1x1x8.size (inbV 1 (by decide)), w1⟩, ⟨Rect.unit (s := S4x51x8) ![1, 0, 0] S1x50x8.size (inbO 1 (by decide)), u1⟩,
      ⟨Rect.unit (s := S4x51x8) ![0, 50, 0] S1x1x8.size (inbV 0 (by decide)), w0⟩, ⟨Rect.unit (s := S4x51x8) ![0, 0, 0] S1x50x8.size (inbO 0 (by decide)), u0⟩] (ix3 ⟨b, hb⟩ i l)
      = if h : i.val < 50 then pick4 u0 u1 u2 u3 b (ix3 0 ⟨i.val, h⟩ l) else pick4 w0 w1 w2 w3 b (ix3 0 0 l) := by
  interval_cases b
  · exact (hist_miss 3 0 (by decide) (by decide) (by decide) _ _ _ i l).trans <| (hist_miss 2 0 (by decide) (by decide) (by decide) _ _ _ i l).trans <| (hist_miss 1 0 (by decide) (by decide) (by decide) _ _ _ i l).trans <| (hist_hit 0 (by decide) _ _ _ i l)
  · exact (hist_miss 3 1 (by decide) (by decide) (by decide) _ _ _ i l).trans <| (hist_miss 2 1 (by decide) (by decide) (by decide) _ _ _ i l).trans <| (hist_hit 1 (by decide) _ _ _ i l)
  · exact (hist_miss 3 2 (by decide) (by decide) (by decide) _ _ _ i l).trans <| (hist_hit 2 (by decide) _ _ _ i l)
  · exact (hist_hit 3 (by decide) _ _ _ i l)

end

variable {F : FTy → Type} [FloatOps F]

section
variable (c : Dev nD) (i : grid0.Coords) (M1 : Memref sig .tc .vmem S32x100000 .f32) (h1 : M1.IsWhole) (M2 : Memref sig .tc .vmem S4x8x1 .f32) (h2 : M2.IsWhole) (M3 : Memref sig .tc .vmem S4x8x1 .f32) (h3 : M3.IsWhole) (M4 : Memref sig .tc .vmem S4x50x8 .i32) (h4 : M4.IsWhole) (M5 : Memref sig .tc .vmem S4x1x8 .f32) (h5 : M5.IsWhole) (M6 : Memref sig .tc .vmem S4x1x8 .i32) (h6 : M6.IsWhole) (M7 : Memref sig .tc .vmem S4x1x8 .i32) (h7 : M7.IsWhole) (M8 : Memref sig .tc .vmem S4x1x8 .f32) (h8 : M8.IsWhole) (M9 : Memref sig .tc .vmem S4x51x8 .i32) (h9 : M9.IsWhole) (M10 : Memref sig .tc .vmem S8x3200 .f32) (h10 : M10.IsWhole) (M11 : Memref sig .tc .vmem S8x3200 .f32) (h11 : M11.IsWhole) (M12 : Memref sig .tc .vmem S8x3200 .f32) (h12 : M12.IsWhole) (M13 : Memref sig .tc .vmem S8x3200 .f32) (h13 : M13.IsWhole) (M14 : Memref sig .tc .vmem S8x3200 .i32) (h14 : M14.IsWhole) (M15 : Memref sig .tc .vmem S8x3200 .i32) (h15 : M15.IsWhole) (M16 : Memref sig .tc .vmem S8x3200 .i32) (h16 : M16.IsWhole) (M17 : Memref sig .tc .vmem S8x3200 .i32) (h17 : M17.IsWhole)
  (f1 : Bf (F := F) c M1) (f2 : Bf (F := F) c M2) (f3 : Bf (F := F) c M3) (f4 : Bf (F := F) c M4)
  (b : Nat) (hb : b < 4) (l : Fin 8)

/-- The body's run. -/
abbrev KR := kernelRun (F := F) c i M1 h1 M2 h2 M3 h3 M4 h4 M5 h5 M6 h6 M7 h7 M8 h8 M9 h9 M10 h10 M11 h11 M12 h12 M13 h13 M14 h14 M15 h15 M16 h16 M17 h17 f1 f2 f3 f4

/-- The scores taken of a row, in its own tables. -/
abbrev mvB : FVec F S1x8 .f32 := mvN c M1 f1 M2 M3 f2 f3 (pick4 M10 M11 M12 M13 b) (pick4 M14 M15 M16 M17 b) b
/-- The places taken of a row, in its own tables. -/
abbrev fvB : IVec S1x8 32 := fvN c M1 f1 M2 M3 f2 f3 (pick4 M10 M11 M12 M13 b) (pick4 M14 M15 M16 M17 b) b

/-- A row of the scores that the body leaves. -/
theorem read5 : M5.view.read (Elt F) (KR c i M1 h1 M2 h2 M3 h3 M4 h4 M5 h5 M6 h6 M7 h7 M8 h8 M9 h9 M10 h10 M11 h11 M12 h12 M13 h13 M14 h14 M15 h15 M16 h16 M17 h17 f1 f2 f3 f4).1.1 (ix3 ⟨b, hb⟩ 0 l)
    = shapeCast S1x1x8 (mvB c M1 M2 M3 M10 M11 M12 M13 M14 M15 M16 M17 f1 f2 f3 b) shapeCasts_S1x8_S1x1x8 (ix3 0 0 l) := by
  refine (congrFun (View.read_writes_junk_eq_canon M5.view (kernelRun.sl.H5_4 c M1 M2 M3 M10 M11 M12 M13 M14 M15 M16 M17 f1 f2 f3)) _).trans ?_
  refine (four_rows _ _ _ _ b hb l).trans ?_
  interval_cases b <;> rfl

/-- A row of the words that it leaves. -/
theorem read6 : M6.view.read (Elt F) (KR c i M1 h1 M2 h2 M3 h3 M4 h4 M5 h5 M6 h6 M7 h7 M8 h8 M9 h9 M10 h10 M11 h11 M12 h12 M13 h13 M14 h14 M15 h15 M16 h16 M17 h17 f1 f2 f3 f4).1.2.1 (ix3 ⟨b, hb⟩ 0 l)
    = shapeCast S1x1x8 (vvecR (fvB c M1 M2 M3 M10 M11 M12 M13 M14 M15 M16 M17 f1 f2 f3 b)) shapeCasts_S1x8_S1x1x8 (ix3 0 0 l) := by
  refine (congrFun (View.read_writes_junk_eq_canon M6.view (kernelRun.sl.H6_4 c M1 M2 M3 M10 M11 M12 M13 M14 M15 M16 M17 f1 f2 f3)) _).trans ?_
  refine (four_rows _ _ _ _ b hb l).trans ?_
  interval_cases b <;> rfl

/-- A row of the beams that it leaves. -/
theorem read7 : M7.view.read (Elt F) (KR c i M1 h1 M2 h2 M3 h3 M4 h4 M5 h5 M6 h6 M7 h7 M8 h8 M9 h9 M10 h10 M11 h11 M12 h12 M13 h13 M14 h14 M15 h15 M16 h16 M17 h17 f1 f2 f3 f4).1.2.2.1 (ix3 ⟨b, hb⟩ 0 l)
    = shapeCast S1x1x8 (bvecR (fvB c M1 M2 M3 M10 M11 M12 M13 M14 M15 M16 M17 f1 f2 f3 b)) shapeCasts_S1x8_S1x1x8 (ix3 0 0 l) := by
  refine (congrFun (View.read_writes_junk_eq_canon M7.view (kernelRun.sl.H7_4 c M1 M2 M3 M10 M11 M12 M13 M14 M15 M16 M17 f1 f2 f3)) _).trans ?_
  refine (four_rows _ _ _ _ b hb l).trans ?_
  interval_cases b <;> rfl

/-- A row of the flags that it leaves. -/
theorem read8 : M8.view.read (Elt F) (KR c i M1 h1 M2 h2 M3 h3 M4 h4 M5 h5 M6 h6 M7 h7 M8 h8 M9 h9 M10 h10 M11 h11 M12 h12 M13 h13 M14 h14 M15 h15 M16 h16 M17 h17 f1 f2 f3 f4).1.2.2.2.1 (ix3 ⟨b, hb⟩ 0 l)
    = shapeCast S1x1x8 (egR (fvB c M1 M2 M3 M10 M11 M12 M13 M14 M15 M16 M17 f1 f2 f3 b) (prS c M3 f3 b hb)) shapeCasts_S1x8_S1x1x8 (ix3 0 0 l) := by
  refine (congrFun (View.read_writes_junk_eq_canon M8.view (kernelRun.sl.H8_4 c M1 M2 M3 M10 M11 M12 M13 M14 M15 M16 M17 f1 f2 f3)) _).trans ?_
  refine (four_rows _ _ _ _ b hb l).trans ?_
  interval_cases b <;> rfl

/-- A row of the histories that it leaves: the gathered ones, and the new word last. -/
theorem read9 (j : Fin 51) : M9.view.read (Elt F) (KR c i M1 h1 M2 h2 M3 h3 M4 h4 M5 h5 M6 h6 M7 h7 M8 h8 M9 h9 M10 h10 M11 h11 M12 h12 M13 h13 M14 h14 M15 h15 M16 h16 M17 h17 f1 f2 f3 f4).1.2.2.2.2 (ix3 ⟨b, hb⟩ j l)
    = if h : j.val < 50 then ogR (fvB c M1 M2 M3 M10 M11 M12 M13 M14 M15 M16 M17 f1 f2 f3 b) c M4 f4 b hb (ix3 0 ⟨j.val, h⟩ l)
      else shapeCast S1x1x8 (vvecR (fvB c M1 M2 M3 M10 M11 M12 M13 M14 M15 M16 M17 f1 f2 f3 b)) shapeCasts_S1x8_S1x1x8 (ix3 0 0 l) := by
  refine (congrFun (View.read_writes_junk_eq_canon M9.view (kernelRun.sl.H9_8 c M1 M2 M3 M4 M10 M11 M12 M13 M14 M15 M16 M17 f1 f2 f3 f4)) _).trans ?_
  refine (four_hist _ _ _ _ _ _ _ _ b hb j l).trans ?_
  split
  · interval_cases b <;> rfl
  · interval_cases b <;> rfl

end

end Cert.Proof.KernelIdeal

end
-- ==== Proof.Lanes.lean ====
/-
  The results read lane by lane over the reals: a lane's token, beam, flag and history, of the place taken in it.
-/
module

public import proofs.«01_k».proof.Proof.Tiles
public import Idealize.ShloMosaic.Lib.MatmulPlain

@[expose] public section

set_option maxRecDepth 16384

noncomputable section

namespace Cert.Proof.KernelIdeal

open _root_.Cert.KernelIdeal _root_.Cert.KernelIdeal.Gen _root_.Cert.KernelIdeal.Facts

open Idealize.ShloMosaic

/-- A word converted to the reals and back is the word. -/
theorem fptosi_back (x : BitVec 32) : Ideal.fptosi 32 ((x.toInt : ℝ) : EReal) = x := by
  have h1 := BitVec.le_toInt x
  have h2 := BitVec.toInt_lt (x := x)
  simp [Ideal.fptosi]
  rw [min_eq_right (by omega), max_eq_right (by omega), BitVec.ofInt_toInt]

/-- The axis of one dropped from a row's histories. -/
theorem hist_cast (Y : IVec S1x50x8 32) (j : Fin 50) (k : Fin 8) : shapeCast S50x8 Y shapeCasts_S1x50x8_S50x8 (ix2 j k) = Y (ix3 0 j k) := by
  pointwise

/-- A load of a row's histories. -/
theorem hist_load (c : Dev nD) (M4 : Memref sig .tc .vmem S4x50x8 .i32) (h4 : M4.IsWhole) (X4 : S4x50x8.Idx → Elt Ideal .i32) (b : Nat) (hb : b < 4) (j : Fin 50) (k : Fin 8) :
    shapeCast S50x8 (View.readAt (Elt Ideal) M4.view (Rect.unit (s := S4x50x8) ![b, 0, 0] S1x50x8.size (inb4 b hb)).toLoadRect (h4.unread X4) : IVec S1x50x8 32) shapeCasts_S1x50x8_S50x8 (ix2 j k)
      = X4 (ix3 ⟨b, hb⟩ j k) := by
  refine (hist_cast _ j k).trans ?_
  rw [h4.readAt_unread]
  congr 1
  funext a
  fin_cases a
  · exact Fin.ext (show b + 1 * 0 = b by omega)
  · exact Fin.ext (show 0 + 1 * j.val = j.val by omega)
  · exact Fin.ext (show 0 + 1 * k.val = k.val by omega)

section
variable (fv : IVec S1x8 32) (n : Fin 8 → Nat) (hn : ∀ l, n l < 800000) (hf : ∀ l : Fin 8, fv (ix2 0 l) = wd (n l))
include hn hf

/-- A lane of the words is its place's word. -/
theorem vvec_lane (l : Fin 8) : vvecR fv (ix2 0 l) = wd (n l % 100000) := by
  unfold vvecR
  rw [fmodV_apply, hf]
  exact fmodN (by omega) (by omega) (by have := hn l; omega)

/-- A lane of the beams is its place's beam. -/
theorem bvec_lane (l : Fin 8) : bvecR fv (ix2 0 l) = wd (n l / 100000) := by
  unfold bvecR
  rw [fdivV_apply, hf]
  exact fdivN (by omega) (by omega) (by have := hn l; omega)

/-- The zero-one matrix has its one at the lane's beam. -/
theorem oh_lane (k l : Fin 8) : ohR (F := Ideal) fv (ix2 k l) = if k.val = n l / 100000 then (1 : EReal) else 0 := by
  have h := bvec_lane fv n hn hf l
  pointwise [ohR]
  rw [h, cmpi_eqN (by omega) (by have := hn l; omega)]
  show (((BitVec.setWidth 32 (BitVec.ofBool (decide (k.val = n l / 100000)))).toInt : ℝ) : EReal) = _
  by_cases q : k.val = n l / 100000
  · simp [q]
  · simp [q]

/-- The one term of a sum at the beam taken. -/
theorem sum_beam (l : Fin 8) (g : Fin 8 → EReal) : ∑ k : Fin 8, g k * (if k.val = n l / 100000 then (1 : EReal) else 0)
    = g ⟨n l / 100000, by have := hn l; omega⟩ := by
  rw [Finset.sum_eq_single (⟨n l / 100000, by have := hn l; omega⟩ : Fin 8)]
  · rw [if_pos rfl, mul_one]
  · intro k _ hk
    rw [if_neg (fun q => hk (Fin.ext q)), mul_zero]
  · intro h
    exact absurd (Finset.mem_univ _) h

/-- A lane of the flags: one at the end word, else the flag of the lane's beam. -/
theorem eg_lane (en : FVec Ideal S8x1 .f32) (l : Fin 8) : egR (F := Ideal) fv en (ix2 0 l)
    = if n l % 100000 = 2 then (1 : EReal) else en (ix2 ⟨n l / 100000, by have := hn l; omega⟩ 0) := by
  have h := vvec_lane fv n hn hf l
  have h' := oh_lane fv n hn hf
  pointwise [egR]
  rw [h, cmpi_eqN (b := 2) (by omega) (by omega), select_ofBool]
  have e : ∑ x : Fin 8, en (ix2 x 0) * ohR (F := Ideal) fv (ix2 x l) = en (ix2 ⟨n l / 100000, by have := hn l; omega⟩ 0) := (Finset.sum_congr rfl fun k _ => congrArg (en (ix2 k 0) * ·) (h' k l)).trans (sum_beam fv n hn hf l fun k => en (ix2 k 0))
  by_cases q : n l % 100000 = 2
  · rw [if_pos q, if_pos (decide_eq_true q)]
  · rw [if_neg q, if_neg (by simpa using q)]
    exact e

/-- A lane of the histories is the history of the lane's beam. -/
theorem og_lane (c : Dev nD) (M4 : Memref sig .tc .vmem S4x50x8 .i32) (h4 : M4.IsWhole) (X4 : S4x50x8.Idx → Elt Ideal .i32) (b : Nat) (hb : b < 4) (j : Fin 50) (l : Fin 8) :
    ogR (F := Ideal) fv c M4 (h4.unread X4) b hb (ix3 0 j l) = X4 (ix3 ⟨b, hb⟩ j ⟨n l / 100000, by have := hn l; omega⟩) := by
  have h' := oh_lane fv n hn hf
  unfold ogR
  generalize ohR (F := Ideal) fv = oh at h'
  have hm : ∀ (A : FVec Ideal S50x8 .f32), matmul dot_S50x8_S8x8_S50x8_1_0_0_1_n_n (some .fp32) A oh (constant S50x8 .f32 0x00000000#32) (ix2 j l)
      = A (ix2 j ⟨n l / 100000, by have := hn l; omega⟩) := by
    intro A
    generalize hz : (constant S50x8 .f32 0x00000000#32 : FVec Ideal S50x8 .f32) = Z
    pointwise
    have e : ∑ x : Fin 8, A (ix2 j x) * oh (ix2 x l) = A (ix2 j ⟨n l / 100000, by have := hn l; omega⟩) :=
      (Finset.sum_congr rfl fun k _ => congrArg (A (ix2 j k) * ·) (h' k l)).trans (sum_beam fv n hn hf l fun k => A (ix2 j k))
    refine (congrArg (Z (ix2 j l) + ·) e).trans ?_
    rw [← hz]
    show Ideal.ofBits .f32 0x00000000#32 + _ = _
    rw [Ideal.ofBits_zero_f32, zero_add]
  generalize matmul (F := Ideal) dot_S50x8_S8x8_S50x8_1_0_0_1_n_n (some .fp32) (φ₁ := .f32) (φ₂ := .f32) = mm at hm ⊢
  pointwise
  rw [hm]
  exact (fptosi_back _).trans (hist_load c M4 h4 X4 b hb j _)

end

end Cert.Proof.KernelIdeal

end
-- ==== Proof.RefScatter.lean ====
/-
  The reference's scatter and gathers, read at an element.
-/
module

public import Idealize.ShloMosaic.Lib.Tactic
public import Idealize.ShloMosaic.PureOps.Ideal
public import Idealize.ShloMosaic.Lib.Routing.OpsSet
public import Idealize.ShloMosaic.Lib.Routing.OpsPair
public import proofs.«01_k».proof.Proof.Gen.ReferenceIdeal
public import proofs.«01_k».proof.Proof.Wd

@[expose] public section

noncomputable section

namespace Cert.Proof.ReferenceIdeal

open _root_.Cert.ReferenceIdeal _root_.Cert.ReferenceIdeal.Gen
open Idealize.ShloMosaic
open Cert.ReferenceIdeal.Facts₀ Cert.ReferenceIdeal.Facts

/-- The gather down the last axis of the flags. -/
theorem gather_flag {α : Type} (x : S64x8.Idx → α) (idx : IVec S64x8x1 32) (B : Fin 64) (l : Fin 8) (k : Nat) (hk : k < 8)
    (h : idx (ix3 B l 0) = wd k) : Host.gather gather_S64x8_S64x8x1_S64x8_n_1_0_0_1_2_11 x idx (ix2 B l) = x (ix2 B ⟨k, hk⟩) := by
  unfold Host.gather
  congr 1
  funext a
  apply Fin.ext
  show GatherDims.start _ (ix2 B l) idx a + GatherDims.batchCoord _ (ix2 B l) a + GatherDims.offCoord _ (ix2 B l) a = _
  fin_cases a
  · rw [GatherDims.start_batching _ _ _ _ (by decide), GatherDims.offCoord_eq_zero _ _ _ (by decide)]
    show 0 + GatherDims.batchCoord gather_S64x8_S64x8x1_S64x8_n_1_0_0_1_2_11 (ix2 B l) 0 + 0 = B.val
    rw [Nat.zero_add, Nat.add_zero]
    rfl
  · rw [GatherDims.batchCoord_eq_zero _ _ _ (by decide), GatherDims.offCoord_eq_zero _ _ _ (by decide), Nat.add_zero]
    have hs : gather_S64x8_S64x8x1_S64x8_n_1_0_0_1_2_11.siIdx (ix2 B l) ⟨0, by decide⟩ = ix3 B l 0 := by
      funext b
      fin_cases b <;> rfl
    show min (idx (gather_S64x8_S64x8x1_S64x8_n_1_0_0_1_2_11.siIdx (ix2 B l) ⟨0, by decide⟩)).toInt.toNat 7 = k
    rw [hs, h, WordArith.toInt_ofNat_small _ (by omega)]
    omega

/-- The gather down the last axis of the histories. -/
theorem gather_hist {α : Type} (x : S50x64x8.Idx → α) (idx : IVec S50x64x8x1 32) (i : Fin 50) (B : Fin 64) (l : Fin 8) (k : Nat) (hk : k < 8)
    (h : idx (ix4 i B l 0) = wd k) : Host.gather gather_S50x64x8_S50x64x8x1_S50x64x8_n_2_01_01_2_3_111 x idx (ix3 i B l) = x (ix3 i B ⟨k, hk⟩) := by
  unfold Host.gather
  congr 1
  funext a
  apply Fin.ext
  show GatherDims.start _ (ix3 i B l) idx a + GatherDims.batchCoord _ (ix3 i B l) a + GatherDims.offCoord _ (ix3 i B l) a = _
  fin_cases a
  · rw [GatherDims.start_batching _ _ _ _ (by decide), GatherDims.offCoord_eq_zero _ _ _ (by decide)]
    show 0 + GatherDims.batchCoord gather_S50x64x8_S50x64x8x1_S50x64x8_n_2_01_01_2_3_111 (ix3 i B l) 0 + 0 = i.val
    rw [Nat.zero_add, Nat.add_zero]
    rfl
  · rw [GatherDims.start_batching _ _ _ _ (by decide), GatherDims.offCoord_eq_zero _ _ _ (by decide)]
    show 0 + GatherDims.batchCoord gather_S50x64x8_S50x64x8x1_S50x64x8_n_2_01_01_2_3_111 (ix3 i B l) 1 + 0 = B.val
    rw [Nat.zero_add, Nat.add_zero]
    rfl
  · rw [GatherDims.batchCoord_eq_zero _ _ _ (by decide), GatherDims.offCoord_eq_zero _ _ _ (by decide), Nat.add_zero]
    have hs : gather_S50x64x8_S50x64x8x1_S50x64x8_n_2_01_01_2_3_111.siIdx (ix3 i B l) ⟨0, by decide⟩ = ix4 i B l 0 := by
      funext b
      fin_cases b <;> rfl
    show min (idx (gather_S50x64x8_S50x64x8x1_S50x64x8_n_2_01_01_2_3_111.siIdx (ix3 i B l) ⟨0, by decide⟩)).toInt.toNat 7 = k
    rw [hs, h, WordArith.toInt_ofNat_small _ (by omega)]
    omega

/-- Where an update of the end column lands. -/
theorem lands_end (idx : IVec S1 32) (h : idx (ix1 0) = 2#32) (B B' : Fin 64) (k k' : Fin 8) (v : Fin 100000) :
    scatter_S64x8x100000_S1_S64x8_01_2_2_0.resultIdx? (ix2 B' k') idx = some (ix3 B k v) ↔ B' = B ∧ k' = k ∧ v.val = 2 := by
  rw [Routing.resultIdx?_eq_some]
  have h0 : scatter_S64x8x100000_S1_S64x8_01_2_2_0.start (ix2 B' k') idx 0 = 0 := rfl
  have h1 : scatter_S64x8x100000_S1_S64x8_01_2_2_0.start (ix2 B' k') idx 1 = 0 := rfl
  have hs : scatter_S64x8x100000_S1_S64x8_01_2_2_0.siIdx (ix2 B' k') ⟨0, by decide⟩ = ix1 0 := by
    funext b
    fin_cases b; rfl
  have h2 : scatter_S64x8x100000_S1_S64x8_01_2_2_0.start (ix2 B' k') idx 2 = 2 := by
    show (idx (scatter_S64x8x100000_S1_S64x8_01_2_2_0.siIdx (ix2 B' k') ⟨0, by decide⟩)).toInt = 2
    rw [hs, h]
    rfl
  have w0 : scatter_S64x8x100000_S1_S64x8_01_2_2_0.window (ix2 B' k') 0 = B'.val := rfl
  have w1 : scatter_S64x8x100000_S1_S64x8_01_2_2_0.window (ix2 B' k') 1 = k'.val := rfl
  have w2 : scatter_S64x8x100000_S1_S64x8_01_2_2_0.window (ix2 B' k') 2 = 0 := rfl
  constructor
  · intro q
    have q0 := q 0
    have q1 := q 1
    have q2 := q 2
    rw [h0, w0] at q0; rw [h1, w1] at q1; rw [h2, w2] at q2
    have e0 : (ix3 B k v 0).val = B.val := rfl
    have e1 : (ix3 B k v 1).val = k.val := rfl
    have e2 : (ix3 B k v 2).val = v.val := rfl
    exact ⟨Fin.ext (by omega), Fin.ext (by omega), by omega⟩
  · rintro ⟨rfl, rfl, hv⟩ a
    fin_cases a
    · show scatter_S64x8x100000_S1_S64x8_01_2_2_0.start (ix2 B' k') idx 0 + (scatter_S64x8x100000_S1_S64x8_01_2_2_0.window (ix2 B' k') 0 : Int) = (B'.val : Int)
      rw [h0, w0]; omega
    · show scatter_S64x8x100000_S1_S64x8_01_2_2_0.start (ix2 B' k') idx 1 + (scatter_S64x8x100000_S1_S64x8_01_2_2_0.window (ix2 B' k') 1 : Int) = (k'.val : Int)
      rw [h1, w1]; omega
    · show scatter_S64x8x100000_S1_S64x8_01_2_2_0.start (ix2 B' k') idx 2 + (scatter_S64x8x100000_S1_S64x8_01_2_2_0.window (ix2 B' k') 2 : Int) = (v.val : Int)
      rw [h2, w2, hv]; rfl

/-- The end column set to `u`. -/
theorem scatter_end {α : Type} (x : S64x8x100000.Idx → α) (idx : IVec S1 32) (h : idx (ix1 0) = 2#32) (u : S64x8.Idx → α) (B : Fin 64) (k : Fin 8) (v : Fin 100000) :
    Host.scatter scatter_S64x8x100000_S1_S64x8_01_2_2_0 (fun _ b => b) x idx u (ix3 B k v) = if v.val = 2 then u (ix2 B k) else x (ix3 B k v) := by
  have hj : ∀ j : S64x8.Idx, j = ix2 (j 0) (j 1) := fun j => by funext a; fin_cases a <;> rfl
  by_cases hv : v.val = 2
  · rw [if_pos hv]
    refine Routing.scatter_set_hit _ x idx u _ _ (fun j q => ?_) (ix2 B k) ((lands_end idx h B B k k v).2 ⟨rfl, rfl, hv⟩)
    rw [hj j] at q ⊢
    obtain ⟨e0, e1, -⟩ := (lands_end idx h B (j 0) k (j 1) v).1 q
    rw [e0, e1]; rfl
  · rw [if_neg hv]
    refine Routing.scatter_set_miss _ x idx u _ fun j q => hv ?_
    rw [hj j] at q
    exact ((lands_end idx h B (j 0) k (j 1) v).1 q).2.2

end Cert.Proof.ReferenceIdeal

end
-- ==== Proof.TopK.lean ====
/-
  The reference's top-k: a stable sort by value, greater first, keeps the places of the best candidates in order.
-/
module

public import Idealize.ShloMosaic.Lib.Tactic
public import Idealize.ShloMosaic.PureOps.Ideal
public import Idealize.ShloMosaic.Lib.SortPrefix
public import proofs.«01_k».proof.Proof.Beam
public import proofs.«01_k».proof.Proof.Wd

@[expose] public section

noncomputable section

namespace Cert.Proof

open Idealize.ShloMosaic
open Cert.Proof.Beam (beats Best)

/-- A stable sort of places in increasing order does as its comparator with ties broken by the place. -/
theorem stable_tie {n : Nat} (R T : Fin n → Fin n → Bool) (h : ∀ a b, a < b → R b a = T b a) :
    ∀ l : List (Fin n), l.Pairwise (· < ·) → stableSort R l = stableSort T l
  | [], _ => rfl
  | a :: l, hl => by
    rw [List.pairwise_cons] at hl
    show insertBefore R a (stableSort R l) = insertBefore T a (stableSort T l)
    rw [stable_tie R T h l hl.2]
    exact insertBefore_congr R T a _ fun b hb => h a b (hl.1 b ((perm_stableSort T l).mem_iff.mp hb))

/-- Two relations that agree on pairs in order sort alike. -/
theorem sortedFrom_tie {n : Nat} (R T : Fin n → Fin n → Bool) (h : ∀ a b, a < b → R b a = T b a) : sortedFrom R = sortedFrom T := by
  funext k
  unfold sortedFrom
  have e : sortPositions n R = sortPositions n T := stable_tie R T h _ (List.pairwise_lt_finRange n)
  rw [List.get_of_eq e]
  rfl

/-- The places a stable sort by value, greater first, puts in front. -/
theorem sorted_best (p : Nat → EReal) (N : Nat) (hN : N = 800000) (x : Fin N → EReal) (hx : ∀ j, x j = p j) (n : Nat → Nat) (hb : Best p n)
    (l : Fin 8) (l' : Fin N) (hl : l'.val = l.val) :
    (sortedFrom (fun k k' => Ideal.cmpTotal .gt (x k) (x k') == 1#1) l').val = n l := by
  classical
  have hT := StrictTotalBefore.of_key_then_position (fun a b : EReal => decide (b < a)) x (by simp)
    (by intro a b c; simp only [decide_eq_true_eq]; exact fun u v => v.trans u)
    (by intro a b; simp only [decide_eq_true_eq]; rcases lt_trichotomy a b with u | u | u <;> simp [u])
  rw [sortedFrom_tie _ (fun k k' : Fin N => decide (x k' < x k) || (decide (x k = x k') && decide (k < k')))]
  · have hn : ∀ r : Fin 8, n r < N := fun r => hN ▸ hb.lt r r.isLt
    have hkey : ∀ a b : Fin N, beats p a.val b.val → (decide (x b < x a) || (decide (x a = x b) && decide (a < b))) = true := by
      intro a b hab
      simp only [Bool.or_eq_true, Bool.and_eq_true, decide_eq_true_eq, hx]
      exact hab.imp id fun u => ⟨u.1.symm, u.2⟩
    have := hT.sortedFrom_eq_of_prefix (k := 8) (by omega) (fun r => ⟨n r, hn r⟩) (fun a b e => Fin.ext (hb.inj a a.isLt b b.isLt (congrArg Fin.val e)))
      (fun i j hij => hT.asymm _ _ (hkey ⟨n i, hn i⟩ ⟨n j, hn j⟩ (hb.ord i j hij j.isLt)))
      (fun i q hq => hT.asymm _ _ (hkey ⟨n i, hn i⟩ q (hb.dom i i.isLt q (hN ▸ q.isLt) fun r hr e => hq ⟨r, hr⟩ (Fin.ext e)))) l
    rw [show l' = l.castLE (by omega) from Fin.ext hl, this]
  · intro a b hab
    simp only [Ideal.cmpTotal, Ideal.cmp, CmpDirection.ordered, hab.not_gt, decide_false, Bool.and_false, Bool.or_false]
    cases decide (x a < x b) <;> rfl

/-- The top-k operation on such rows: the places it returns, and the values. -/
theorem topK_best {R N : Nat} (hN : N = 800000) (x : (⟨2, ![R, N]⟩ : Shape).Idx → EReal) (h : (⟨2, ![R, N]⟩ : Shape).Slices (fun _ => 0) ⟨2, ![R, 8]⟩)
    (B : Fin R) (p : Nat → EReal) (hx : ∀ j : Fin N, x (ix2 B j) = p j) (n : Nat → Nat) (hb : Best p n) (l : Fin 8) :
    (Host.topK ⟨2, ![R, 8]⟩ 1 (FloatOps.cmpfTotal (F := Ideal) (φ := .f32) .gt) x h).1 (ix2 B l) = p (n l)
      ∧ (Host.topK ⟨2, ![R, 8]⟩ 1 (FloatOps.cmpfTotal (F := Ideal) (φ := .f32) .gt) x h).2 (ix2 B l) = wd (n l) := by
  have ha : ∀ (j : (⟨2, ![R, N]⟩ : Shape).Idx) (k : Fin N), j 0 = B → j.along 1 k = ix2 B k := by
    intro j k hj
    funext a
    fin_cases a
    · exact hj
    · rfl
  let j : (⟨2, ![R, N]⟩ : Shape).Idx := fun a => ⟨0 + (ix2 B l (a.cast h.1.symm)).val, Nat.lt_of_lt_of_le (Nat.add_lt_add_left (ix2 B l _).isLt _) (h.2 a)⟩
  have hj : j 0 = B := Fin.ext (Nat.zero_add _)
  have hs : (sortedFrom (fun k k' : Fin N => Ideal.cmpTotal .gt (x (j.along 1 k)) (x (j.along 1 k')) == 1#1) (j 1)).val = n l :=
    sorted_best p N hN (fun k => x (j.along 1 k)) (fun k => (congrArg x (ha j k hj)).trans (hx k)) n hb l (j 1) (Nat.zero_add _)
  constructor
  · show x (j.along 1 (sortedFrom (fun k k' : Fin N => Ideal.cmpTotal .gt (x (j.along 1 k)) (x (j.along 1 k')) == 1#1) (j 1))) = p (n l)
    exact (congrArg x (ha j _ hj)).trans ((hx _).trans (congrArg p hs))
  · show BitVec.ofNat 32 ((j.along 1 (sortedFrom (fun k k' : Fin N => Ideal.cmpTotal .gt (x (j.along 1 k)) (x (j.along 1 k')) == 1#1) (j 1))) 1).val = wd (n l)
    rw [← hs]
    rfl

end Cert.Proof

end
-- ==== Proof.RefSide.lean ====
/-
  The reference's results, read at an element.
-/
module

public import Idealize.ShloMosaic.Lib.Tactic
public import Idealize.ShloMosaic.PureOps.Ideal
public import proofs.«01_k».proof.Proof.Gen.ReferenceIdeal.Run
public import proofs.«01_k».proof.Proof.RefScatter
public import proofs.«01_k».proof.Proof.TopK

@[expose] public section

set_option maxRecDepth 8192

noncomputable section

namespace Cert.Proof.ReferenceIdeal

open _root_.Cert.ReferenceIdeal _root_.Cert.ReferenceIdeal.Gen
open Idealize.ShloMosaic

/-! ## The tensors the reference builds -/

/-- The log probabilities with an ended beam's at −∞. -/
def liveV (x0 : FVec Ideal S512x1x100000 .f32) (x3 : IVec S64x8 1) : FVec Ideal S64x8x100000 .f32 :=
  select (broadcastInDim S64x8x100000 ![0, 1, 2] bcast_S64x8x1_S64x8x100000_0_1_2 (broadcastInDim S64x8x1 ![0, 1] bcast_S64x8_S64x8x1_0_1 x3))
    (broadcastInDim S64x8x100000 ![] bcast_S_S64x8x100000 (id (constant S_ .f32 0xFF800000#32))) (shapeCast _ x0 shapeCasts_S512x1x100000_S64x8x100000)

/-- The end column: nought for an ended beam. -/
def endV (x0 : FVec Ideal S512x1x100000 .f32) (x3 : IVec S64x8 1) : FVec Ideal S64x8 .f32 :=
  select x3 (broadcastInDim S64x8 ![] bcast_S_S64x8 (id (constant S_ .f32 0x00000000#32)))
    (shapeCast _ (extractStridedSlice S64x8x1 ![0, 0, 2] (liveV x0 x3) slices_S64x8x100000_S64x8x1_0_0_2) shapeCasts_S64x8x1_S64x8)

/-- All candidates' scores, a row of them for each batch row. -/
def scoreV (x0 : FVec Ideal S512x1x100000 .f32) (x1 : FVec Ideal S64x8 .f32) (x3 : IVec S64x8 1) : FVec Ideal S64x800000 .f32 :=
  shapeCast _ (addf (broadcastInDim S64x8x100000 ![0, 1, 2] bcast_S64x8x1_S64x8x100000_0_1_2 (broadcastInDim S64x8x1 ![0, 1] bcast_S64x8_S64x8x1_0_1 x1))
    (Host.scatter scatter_S64x8x100000_S1_S64x8_01_2_2_0 (fun _ b => b) (liveV x0 x3) (broadcastInDim S1 ![] bcast_S_S1 (constantI S_ 32 2#32)) (endV x0 x3)))
    shapeCasts_S64x8x100000_S64x800000

/-- The vocabulary size, in every element. -/
def vocV : IVec S64x8 32 := broadcastInDim S64x8 ![] bcast_S_S64x8 (id (constantI S_ 32 100000#32))

/-- The same after the guard against nought. -/
def vocG : IVec S_ 32 := select (cmpi .eq (id (constantI S_ 32 100000#32)) (constantI S_ 32 0#32)) (constantI S_ 32 1#32) (id (constantI S_ 32 100000#32))

/-- A word in every element. -/
def allV (x : IVec S_ 32) : IVec S64x8 32 := broadcastInDim S64x8 ![] bcast_S_S64x8 x

/-- The candidates' words of the vocabulary. -/
def modV (I : IVec S64x8 32) : IVec S64x8 32 :=
  select (andi (cmpi .ne (cmpi .slt (Host.remsi I (allV vocG)) (allV (constantI S_ 32 0#32)))
      (broadcastInDim S64x8 ![] bcast_S_S64x8 (cmpi .slt vocG (constantI S_ 32 0#32))))
      (cmpi .ne (Host.remsi I (allV vocG)) (allV (constantI S_ 32 0#32))))
    (addi (Host.remsi I (allV vocG)) (allV vocG)) (Host.remsi I (allV vocG))

/-- The candidates' beams. -/
def divV (I : IVec S64x8 32) : IVec S64x8 32 :=
  select (andi (cmpi .ne (signi I) (allV (signi (id (constantI S_ 32 100000#32))))) (cmpi .ne (Host.remsi I vocV) (allV (constantI S_ 32 0#32))))
    (subi (Host.divsi I vocV) (allV (constantI S_ 32 1#32))) (Host.divsi I vocV)

/-- The beams as start indices of the flags' gather. -/
def idxE (D : IVec S64x8 32) : IVec S64x8x1 32 :=
  shapeCast _ (select (cmpi .slt D (allV (constantI S_ 32 0#32))) (addi D (allV (constantI S_ 32 8#32))) D) shapeCasts_S64x8_S64x8x1

/-- Which of them are in range. -/
def inE (D : IVec S64x8 32) : IVec S64x8x1 1 :=
  andi (cmpi .sge (idxE D) (broadcastInDim S64x8x1 ![] bcast_S_S64x8x1 (constantI S_ 32 0#32)))
    (cmpi .sle (idxE D) (broadcastInDim S64x8x1 ![0, 1, 2] bcast_S1x1x1_S64x8x1_0_1_2 (broadcastInDim S1x1x1 ![2] bcast_S1_S1x1x1_2 (constantI S1 32 7#32))))

/-- The parents' flags. -/
def flagV (x3 : IVec S64x8 1) (D : IVec S64x8 32) : IVec S64x8 1 :=
  select (Host.reduce IntOp.andi (inE D) (constantI S_ 1 1#1) reducesTo_S64x8x1_S64x8_d2 h_S_)
    (Host.gather gather_S64x8_S64x8x1_S64x8_n_1_0_0_1_2_11 x3 (idxE D)) (broadcastInDim S64x8 ![] bcast_S_S64x8 (constantI S_ 1 1#1))

/-- The beams, repeated for each step of the history. -/
def repV (D : IVec S64x8 32) : IVec S50x64x8 32 :=
  broadcastInDim S50x64x8 ![0, 1, 2] bcast_S1x64x8_S50x64x8_0_1_2 (broadcastInDim S1x64x8 ![1, 2] bcast_S64x8_S1x64x8_1_2 D)

/-- They as start indices of the histories' gather. -/
def idxO (D : IVec S64x8 32) : IVec S50x64x8x1 32 :=
  shapeCast _ (select (cmpi .slt (repV D) (broadcastInDim S50x64x8 ![] bcast_S_S50x64x8 (constantI S_ 32 0#32)))
    (addi (repV D) (broadcastInDim S50x64x8 ![] bcast_S_S50x64x8 (constantI S_ 32 8#32))) (repV D)) shapeCasts_S50x64x8_S50x64x8x1

/-- Which of them are in range. -/
def inO (D : IVec S64x8 32) : IVec S50x64x8x1 1 :=
  andi (cmpi .sge (idxO D) (broadcastInDim S50x64x8x1 ![] bcast_S_S50x64x8x1 (constantI S_ 32 0#32)))
    (cmpi .sle (idxO D) (broadcastInDim S50x64x8x1 ![0, 1, 2, 3] bcast_S1x1x1x1_S50x64x8x1_0_1_2_3 (broadcastInDim S1x1x1x1 ![3] bcast_S1_S1x1x1x1_3 (constantI S1 32 7#32))))

/-- The parents' histories. -/
def histV (x2 : IVec S50x64x8 32) (D : IVec S64x8 32) : IVec S50x64x8 32 :=
  select (Host.reduce IntOp.andi (inO D) (constantI S_ 1 1#1) reducesTo_S50x64x8x1_S50x64x8_d3 h_S_)
    (Host.gather gather_S50x64x8_S50x64x8x1_S50x64x8_n_2_01_01_2_3_111 x2 (idxO D)) (broadcastInDim S50x64x8 ![] bcast_S_S50x64x8 (constantI S_ 32 2147483648#32))

/-- The new flags. -/
def endedV (x3 : IVec S64x8 1) (M D : IVec S64x8 32) : IVec S64x8 1 :=
  select (cmpi .eq M (allV (constantI S_ 32 2#32))) (broadcastInDim S64x8 ![] bcast_S_S64x8 (constantI S_ 1 1#1)) (flagV x3 D)

/-- The new histories. -/
def outsV (x2 : IVec S50x64x8 32) (M D : IVec S64x8 32) : IVec S51x64x8 32 :=
  concatenate S51x64x8 0 [⟨S50x64x8, histV x2 D⟩, ⟨S1x64x8, broadcastInDim S1x64x8 ![1, 2] bcast_S64x8_S1x64x8_1_2 M⟩] concatenates_S50x64x8_S1x64x8_S51x64x8_d0

/-- The best candidates' places, and their scores. -/
def topV (x0 : FVec Ideal S512x1x100000 .f32) (x1 : FVec Ideal S64x8 .f32) (x3 : IVec S64x8 1) : FVec Ideal S64x8 .f32 × IVec S64x8 32 :=
  Host.topK S64x8 1 (FloatOps.cmpfTotal (F := Ideal) (φ := .f32) .gt) (scoreV x0 x1 x3) sliceFits_S64x800000_S64x8

section
variable (m : (ℓ : Loc nD τ sig) → Buf (Elt Ideal) ℓ) (c : Dev nD)

/-- The reference's fifth result, in the names above. -/
theorem res13 : Value.res_main_v13 m c = divV (topV (m ((c.tc : Thread nD τ).loc main_arg0)) (m ((c.tc : Thread nD τ).loc main_arg1)) (m ((c.tc : Thread nD τ).loc main_arg3))).2 := rfl
/-- Its first result. -/
theorem res23 : Value.res_main_v23 m c = shapeCast _ (modV (topV (m ((c.tc : Thread nD τ).loc main_arg0)) (m ((c.tc : Thread nD τ).loc main_arg1)) (m ((c.tc : Thread nD τ).loc main_arg3))).2) shapeCasts_S64x8_S512x1 := rfl
/-- Its fourth result. -/
theorem res22 : Value.res_main_v22 m c = endedV (m ((c.tc : Thread nD τ).loc main_arg3))
    (modV (topV (m ((c.tc : Thread nD τ).loc main_arg0)) (m ((c.tc : Thread nD τ).loc main_arg1)) (m ((c.tc : Thread nD τ).loc main_arg3))).2)
    (divV (topV (m ((c.tc : Thread nD τ).loc main_arg0)) (m ((c.tc : Thread nD τ).loc main_arg1)) (m ((c.tc : Thread nD τ).loc main_arg3))).2) := rfl
/-- Its third result. -/
theorem res19 : Value.res_main_v19 m c = outsV (m ((c.tc : Thread nD τ).loc main_arg2))
    (modV (topV (m ((c.tc : Thread nD τ).loc main_arg0)) (m ((c.tc : Thread nD τ).loc main_arg1)) (m ((c.tc : Thread nD τ).loc main_arg3))).2)
    (divV (topV (m ((c.tc : Thread nD τ).loc main_arg0)) (m ((c.tc : Thread nD τ).loc main_arg1)) (m ((c.tc : Thread nD τ).loc main_arg3))).2) := rfl

end

end Cert.Proof.ReferenceIdeal

end
-- ==== Proof.RefRead.lean ====
/-
  The reference's tensors at an element: words, flags, histories and scores.
-/
module

public import proofs.«01_k».proof.Proof.RefSide

@[expose] public section

set_option maxRecDepth 8192

noncomputable section

namespace Cert.Proof.ReferenceIdeal

open _root_.Cert.ReferenceIdeal _root_.Cert.ReferenceIdeal.Gen
open Idealize.ShloMosaic

/-- The host's remainder of a small number. -/
theorem host_rem {n : Nat} (hn : n < 2 ^ 31) : IntOp.remsi .host (wd n) 100000#32 = wd (n % 100000) := by
  have h2 := WordArith.toInt_ofNat_small n hn
  rw [← BitVec.toInt_inj, remsi_toInt (by decide), h2, WordArith.toInt_ofNat_small 100000 (by omega), WordArith.toInt_ofNat_small (n % 100000) (by omega)]
  rw [Int.tmod_eq_emod_of_nonneg (by positivity)]
  push_cast; rfl

/-- The host's quotient of a small number. -/
theorem host_div {n : Nat} (hn : n < 2 ^ 31) : IntOp.divsi .host (wd n) 100000#32 = wd (n / 100000) := by
  have h2 := WordArith.toInt_ofNat_small n hn
  rw [← BitVec.toInt_inj, divsi_toInt (by decide), h2, WordArith.toInt_ofNat_small 100000 (by omega), WordArith.toInt_ofNat_small (n / 100000) (by omega)]
  rw [Int.tdiv_eq_ediv_of_nonneg (by positivity)]
  push_cast; rfl

/-- A small number is not negative. -/
theorem slt_zero {n : Nat} (hn : n < 2 ^ 31) : IntOp.cmpi .slt (wd n) 0#32 = 0#1 := by
  have h2 := WordArith.toInt_ofNat_small n hn
  have : (wd n).slt 0#32 = false := by rw [BitVec.slt_eq_decide, h2]; simp
  unfold IntOp.cmpi
  simp only [this]; rfl

/-- The reference's word of a place. -/
theorem modV_apply (I : IVec S64x8 32) (i : S64x8.Idx) (n : Nat) (hn : n < 2 ^ 31) (h : I i = wd n) : modV I i = wd (n % 100000) := by
  have e : modV I i = Scalar.select (IntOp.andi (IntOp.cmpi .ne (IntOp.cmpi .slt (IntOp.remsi .host (I i) 100000#32) 0#32) 0#1)
      (IntOp.cmpi .ne (IntOp.remsi .host (I i) 100000#32) 0#32))
    (IntOp.addi (IntOp.remsi .host (I i) 100000#32) 100000#32) (IntOp.remsi .host (I i) 100000#32) := rfl
  rw [e, h, host_rem hn, slt_zero (by omega)]
  have : ∀ b : BitVec 1, IntOp.andi (IntOp.cmpi .ne (0#1) (0#1)) b = 0#1 := by decide
  rw [this]
  rfl

/-- The reference's beam of a place. -/
theorem divV_apply (I : IVec S64x8 32) (i : S64x8.Idx) (n : Nat) (hn : n < 2 ^ 31) (h : I i = wd n) : divV I i = wd (n / 100000) := by
  have e : divV I i = Scalar.select (IntOp.andi (IntOp.cmpi .ne (if I i = 0 then 0 else if (I i).msb then -1 else 1) (signi (constantI S_ 32 100000#32) ix0))
      (IntOp.cmpi .ne (IntOp.remsi .host (I i) 100000#32) 0#32))
    (IntOp.subi (IntOp.divsi .host (I i) 100000#32) 1#32) (IntOp.divsi .host (I i) 100000#32) := rfl
  have e1 : signi (constantI S_ 32 100000#32) ix0 = 1#32 := by
    show (if (100000#32 : BitVec 32) = 0 then 0 else if (100000#32 : BitVec 32).msb then -1 else 1) = 1#32
    decide
  rw [e, e1, h, host_rem hn, host_div hn]
  have hz : wd n = wd 0 ↔ n = 0 := wd_inj (by omega) (by decide)
  have hm : (wd n).msb = false := by
    rw [BitVec.msb_eq_decide]
    simp; omega
  rw [hm]
  by_cases h0 : n = 0
  · subst h0; rfl
  · rw [if_neg (show ¬ wd n = (0 : BitVec 32) from fun q => h0 (hz.1 q)), if_neg (by simp)]
    have : ∀ b : BitVec 1, IntOp.andi (IntOp.cmpi .ne (1 : BitVec 32) 1#32) b = 0#1 := by decide
    rw [this]
    rfl

/-- A conjunction down an axis of tests that all hold. -/
theorem reduce_ones {s t : Shape} {axes : List (Fin s.rank)} (x : IVec s 1) (init : IVec S_ 1) (h : s.ReducesTo axes t) (hu : 0 < S_.numel)
    (hi : ∀ i, init i = 1#1) (hx : ∀ i, x i = 1#1) (j : t.Idx) : Host.reduce IntOp.andi x init h hu j = 1#1 := by
  unfold Host.reduce
  generalize (List.finRange s.numel).filter (fun n => h.drop (s.rowMajor.symm n) = j) = L
  rw [hi]
  induction L with
  | nil => rfl
  | cons a L ih => rw [List.foldl_cons, hx]; exact ih

/-- A beam's index is not negative, so it is not wrapped. -/
theorem wrapW {d : Nat} (hd : d < 8) : Scalar.select (IntOp.cmpi .slt (wd d) 0#32) (IntOp.addi (wd d) 8#32) (wd d) = wd d := by
  rw [slt_zero (by omega)]; rfl

/-- A beam's index is in range. -/
theorem in_range {d : Nat} (hd : d < 8) : IntOp.andi (IntOp.cmpi .sge (wd d) 0#32) (IntOp.cmpi .sle (wd d) 7#32) = 1#1 := by
  have : ∀ d : Fin 8, IntOp.andi (IntOp.cmpi .sge (wd d.val) 0#32) (IntOp.cmpi .sle (wd d.val) 7#32) = 1#1 := by decide
  exact this ⟨d, hd⟩

section
variable (D : IVec S64x8 32) (d : Fin 64 → Fin 8 → Nat) (hd : ∀ B l, d B l < 8) (hD : ∀ B l, D (ix2 B l) = wd (d B l))
include hD hd

/-- The flags' start index is the beam. -/
theorem idxE_apply (B : Fin 64) (l : Fin 8) : idxE D (ix3 B l 0) = wd (d B l) := by
  have e : idxE D (ix3 B l 0) = Scalar.select (IntOp.cmpi .slt (D (ix2 B l)) 0#32) (IntOp.addi (D (ix2 B l)) 8#32) (D (ix2 B l)) := by
    pointwise [idxE, allV]
  rw [e, hD, wrapW (hd B l)]

/-- The gathered flag is the beam's. -/
theorem flagV_apply (x3 : IVec S64x8 1) (B : Fin 64) (l : Fin 8) : flagV x3 D (ix2 B l) = x3 (ix2 B ⟨d B l, hd B l⟩) := by
  have hx : ∀ i, inE D i = 1#1 := by
    intro i
    have hi : i = ix3 (i 0) (i 1) 0 := by
      funext a
      fin_cases a
      · rfl
      · rfl
      · exact Subsingleton.elim (α := Fin 1) _ _
    have e : inE D i = IntOp.andi (IntOp.cmpi .sge (idxE D i) 0#32) (IntOp.cmpi .sle (idxE D i) 7#32) := rfl
    rw [e, hi]
    erw [idxE_apply D d hd hD (i 0) (i 1)]
    exact in_range (hd _ _)
  show Scalar.select (Host.reduce IntOp.andi (inE D) (constantI S_ 1 1#1) reducesTo_S64x8x1_S64x8_d2 h_S_ (ix2 B l))
    (Host.gather gather_S64x8_S64x8x1_S64x8_n_1_0_0_1_2_11 x3 (idxE D) (ix2 B l)) 1#1 = _
  rw [reduce_ones _ (constantI S_ 1 1#1) _ _ (fun _ => rfl) hx, gather_flag x3 (idxE D) B l (d B l) (hd B l) (idxE_apply D d hd hD B l)]
  rfl

/-- The histories' start index is the beam. -/
theorem idxO_apply (i : Fin 50) (B : Fin 64) (l : Fin 8) : idxO D (ix4 i B l 0) = wd (d B l) := by
  have e : idxO D (ix4 i B l 0) = Scalar.select (IntOp.cmpi .slt (D (ix2 B l)) 0#32) (IntOp.addi (D (ix2 B l)) 8#32) (D (ix2 B l)) := by
    pointwise [idxO, repV]
  rw [e, hD, wrapW (hd B l)]

/-- The gathered history is the beam's. -/
theorem histV_apply (x2 : IVec S50x64x8 32) (i : Fin 50) (B : Fin 64) (l : Fin 8) : histV x2 D (ix3 i B l) = x2 (ix3 i B ⟨d B l, hd B l⟩) := by
  have hx : ∀ i, inO D i = 1#1 := by
    intro i
    have hi : i = ix4 (i 0) (i 1) (i 2) 0 := by
      funext a
      fin_cases a
      · rfl
      · rfl
      · rfl
      · exact Subsingleton.elim (α := Fin 1) _ _
    have e : inO D i = IntOp.andi (IntOp.cmpi .sge (idxO D i) 0#32) (IntOp.cmpi .sle (idxO D i) 7#32) := rfl
    rw [e, hi]
    erw [idxO_apply D d hd hD (i 0) (i 1) (i 2)]
    exact in_range (hd _ _)
  show Scalar.select (Host.reduce IntOp.andi (inO D) (constantI S_ 1 1#1) reducesTo_S50x64x8x1_S50x64x8_d3 h_S_ (ix3 i B l))
    (Host.gather gather_S50x64x8_S50x64x8x1_S50x64x8_n_2_01_01_2_3_111 x2 (idxO D) (ix3 i B l)) 2147483648#32 = _
  rw [reduce_ones _ (constantI S_ 1 1#1) _ _ (fun _ => rfl) hx, gather_hist x2 (idxO D) i B l (d B l) (hd B l) (idxO_apply D d hd hD i B l)]
  rfl

end

/-- The word of zeros is zero. -/
theorem zero_bits : Ideal.ofBits .f32 0#32 = 0 := by simp

/-- The score of a candidate. -/
theorem scoreV_apply (x0 : FVec Ideal S512x1x100000 .f32) (x1 : FVec Ideal S64x8 .f32) (x3 : IVec S64x8 1) (B : Fin 64) (j : Fin 800000) :
    scoreV x0 x1 x3 (ix2 B j) = x1 (ix2 B ⟨j.val / 100000, by omega⟩)
      + if x3 (ix2 B ⟨j.val / 100000, by omega⟩) = 1#1 then (if j.val % 100000 = 2 then 0 else ⊥)
        else x0 (ix3 ⟨8 * B.val + j.val / 100000, by omega⟩ 0 ⟨j.val % 100000, by omega⟩) := by
  have hl : ∀ (k : Fin 8) (v : Fin 100000), liveV x0 x3 (ix3 B k v) = Scalar.select (x3 (ix2 B k)) (Ideal.ofBits .f32 0xFF800000#32) (x0 (ix3 ⟨8 * B.val + k.val, by omega⟩ 0 v)) := by
    intro k v
    have e : liveV x0 x3 (ix3 B k v) = Scalar.select (x3 (ix2 B k)) (id (constant (F := Ideal) S_ FTy.f32 4286578688#32) ix0) (x0 (ix3 ⟨B.val * 8 + k.val, by omega⟩ 0 v)) := by
      pointwise [liveV]
    rw [e]
    have q : (⟨B.val * 8 + k.val, by omega⟩ : Fin 512) = ⟨8 * B.val + k.val, by omega⟩ := Fin.ext (by show B.val * 8 + k.val = 8 * B.val + k.val; omega)
    rw [q]
    rfl
  have he : ∀ (k : Fin 8), endV x0 x3 (ix2 B k) = Scalar.select (x3 (ix2 B k)) (0 : EReal) (liveV x0 x3 (ix3 B k 2)) := by
    intro k
    have e : endV x0 x3 (ix2 B k) = Scalar.select (x3 (ix2 B k)) (id (constant (F := Ideal) S_ FTy.f32 0#32) ix0) (liveV x0 x3 (ix3 B k 2)) := by
      pointwise [endV]
    rw [e]
    congr 1
    exact zero_bits
  have hs : scoreV x0 x1 x3 (ix2 B j) = x1 (ix2 B ⟨j.val / 100000, by omega⟩)
      + Host.scatter scatter_S64x8x100000_S1_S64x8_01_2_2_0 (fun _ b => b) (liveV x0 x3) (broadcastInDim S1 ![] bcast_S_S1 (constantI S_ 32 2#32)) (endV x0 x3)
        (ix3 B ⟨j.val / 100000, by omega⟩ ⟨j.val % 100000, by omega⟩) := by
    pointwise [scoreV]
  rw [hs, scatter_end _ _ rfl, he, hl, hl, ofBits_ninf]
  have hx : ∀ b : BitVec 1, b = 1#1 ∨ b = 0#1 := by decide
  congr 1
  by_cases h2 : j.val % 100000 = 2
  · have q : (2 : Fin 100000) = ⟨j.val % 100000, by omega⟩ := Fin.ext h2.symm
    rw [if_pos h2, if_pos h2, q]
    rcases hx (x3 (ix2 B ⟨j.val / 100000, by omega⟩)) with h | h
    · rw [h]; rfl
    · rw [h]; rfl
  · rw [if_neg h2, if_neg h2]
    rcases hx (x3 (ix2 B ⟨j.val / 100000, by omega⟩)) with h | h
    · rw [h]; rfl
    · rw [h]; rfl

open Cert.Proof.Beam (Best)

/-- A batch row's score of the candidate at a place. -/
def qS (x0 : FVec Ideal S512x1x100000 .f32) (x1 : FVec Ideal S64x8 .f32) (x3 : IVec S64x8 1) (B : Fin 64) (j : Nat) : EReal :=
  scoreV x0 x1 x3 (ix2 B ⟨j % 800000, by omega⟩)

section
variable (x0 : FVec Ideal S512x1x100000 .f32) (x1 : FVec Ideal S64x8 .f32) (x2 : IVec S50x64x8 32) (x3 : IVec S64x8 1)
  (n : Fin 64 → Nat → Nat) (hb : ∀ B, Best (qS x0 x1 x3 B) (n B))
include hb

/-- The reference's eight best are the candidates `n`, with their scores. -/
theorem top_apply (B : Fin 64) (l : Fin 8) : (topV x0 x1 x3).1 (ix2 B l) = qS x0 x1 x3 B (n B l) ∧ (topV x0 x1 x3).2 (ix2 B l) = wd (n B l) := by
  have hx : ∀ j : Fin 800000, scoreV x0 x1 x3 (ix2 B j) = qS x0 x1 x3 B j := by
    intro j
    unfold qS
    congr 2
    exact Fin.ext (Nat.mod_eq_of_lt j.isLt).symm
  exact topK_best rfl (scoreV x0 x1 x3) sliceFits_S64x800000_S64x8 B (qS x0 x1 x3 B) hx (n B) (hb B) l

/-- They are candidates. -/
theorem lt_apply (B : Fin 64) (l : Fin 8) : n B l < 800000 := (hb B).lt l l.isLt

/-- Their words. -/
theorem mod_top (B : Fin 64) (l : Fin 8) : modV (topV x0 x1 x3).2 (ix2 B l) = wd (n B l % 100000) :=
  modV_apply _ _ _ (by have := lt_apply x0 x1 x3 n hb B l; omega) (top_apply x0 x1 x3 n hb B l).2

/-- Their beams. -/
theorem div_top (B : Fin 64) (l : Fin 8) : divV (topV x0 x1 x3).2 (ix2 B l) = wd (n B l / 100000) :=
  divV_apply _ _ _ (by have := lt_apply x0 x1 x3 n hb B l; omega) (top_apply x0 x1 x3 n hb B l).2

/-- Their flags: set at the end word, else the beam's. -/
theorem ended_top (B : Fin 64) (l : Fin 8) : endedV x3 (modV (topV x0 x1 x3).2) (divV (topV x0 x1 x3).2) (ix2 B l)
    = if n B l % 100000 = 2 then 1#1 else x3 (ix2 B ⟨n B l / 100000, by have := lt_apply x0 x1 x3 n hb B l; omega⟩) := by
  have e : endedV x3 (modV (topV x0 x1 x3).2) (divV (topV x0 x1 x3).2) (ix2 B l)
      = Scalar.select (IntOp.cmpi .eq (modV (topV x0 x1 x3).2 (ix2 B l)) (wd 2)) 1#1 (flagV x3 (divV (topV x0 x1 x3).2) (ix2 B l)) := rfl
  rw [e, mod_top x0 x1 x3 n hb, flagV_apply (divV (topV x0 x1 x3).2) (fun B l => n B l / 100000)
    (fun B l => by have := lt_apply x0 x1 x3 n hb B l; omega) (div_top x0 x1 x3 n hb), cmpi_eqN (by omega) (by decide), select_ofBool]
  simp only [decide_eq_true_eq]

/-- Their histories: the beam's, and the word last. -/
theorem outs_top (i : Fin 51) (B : Fin 64) (l : Fin 8) : outsV x2 (modV (topV x0 x1 x3).2) (divV (topV x0 x1 x3).2) (ix3 i B l)
    = if h : i.val < 50 then x2 (ix3 ⟨i.val, h⟩ B ⟨n B l / 100000, by have := lt_apply x0 x1 x3 n hb B l; omega⟩) else wd (n B l % 100000) := by
  unfold outsV
  split
  · rename_i h
    refine (concatenate_pair_apply_left (t := S51x64x8) (s₁ := S50x64x8) (s₂ := S1x64x8) 0 _ _ concatenates_S50x64x8_S1x64x8_S51x64x8_d0 (ix3 i B l) rfl (ix3 ⟨i.val, h⟩ B l) ?_).trans ?_
    · intro b
      fin_cases b <;> rfl
    · exact histV_apply (divV (topV x0 x1 x3).2) (fun B l => n B l / 100000)
        (fun B l => by have := lt_apply x0 x1 x3 n hb B l; omega) (div_top x0 x1 x3 n hb) x2 ⟨i.val, h⟩ B l
  · rename_i h
    refine (concatenate_pair_apply_right (t := S51x64x8) (s₁ := S50x64x8) (s₂ := S1x64x8) 0 _ _ concatenates_S50x64x8_S1x64x8_S51x64x8_d0 (ix3 i B l) rfl rfl (ix3 0 B l) ?_ ?_).trans ?_
    · intro b
      fin_cases b
      · exact fun q => absurd rfl q
      · exact fun _ => rfl
      · exact fun _ => rfl
    · show 0 + 50 = i.val
      omega
    · exact mod_top x0 x1 x3 n hb B l

end

end Cert.Proof.ReferenceIdeal

end
-- ==== Proof.Rows.lean ====
/-
  A batch row's results at a point, in the arguments' own words: the kernel's scores of a row's candidates are the reference's.
-/
module

public import proofs.«01_k».proof.Proof.Blocks
public import proofs.«01_k».proof.Proof.Eight
public import proofs.«01_k».proof.Proof.Outs
public import proofs.«01_k».proof.Proof.Lanes
public import proofs.«01_k».proof.Proof.RefRead

@[expose] public section

set_option maxRecDepth 16384

noncomputable section

namespace Cert.Proof.KernelIdeal

open _root_.Cert.KernelIdeal _root_.Cert.KernelIdeal.Gen _root_.Cert.KernelIdeal.Facts

open Idealize.ShloMosaic Idealize.ShloMosaic.TcCoe
open Cert.Proof.ReferenceIdeal (qS scoreV_apply)
open Cert.Proof.Beam (Best beats)

/-- The best eight depend on the scores of the candidates alone. -/
theorem best_congr {p q : Nat → EReal} {n : Nat → Nat} (h : Best p n) (e : ∀ j < 800000, p j = q j) : Best q n where
  lt := h.lt
  inj := h.inj
  ord r r' hr hr' := by
    have := h.ord r r' hr hr'
    unfold beats at this ⊢
    rwa [← e _ (h.lt r (by omega)), ← e _ (h.lt r' hr')]
  dom r hr k hk hne := by
    have := h.dom r hr k hk hne
    unfold beats at this ⊢
    rwa [← e _ (h.lt r hr), ← e _ hk]

/-- A bit as a number is above one half when it is set. -/
theorem bit_half (x : BitVec 1) : Ideal.ofBits .f32 1056964608#32 < ((x.toNat : ℝ) : EReal) ↔ x = 1#1 := by
  have hx : x = 0#1 ∨ x = 1#1 := by revert x; decide
  rcases hx with rfl | rfl
  · have := half_pos.1
    simpa using this.le
  · have := half_pos.2
    simpa using this

variable (m : (ℓ : Loc nD τ sig) → Buf (Elt Ideal) ℓ) (c : Dev nD)

/-- A flag of the block is the argument's, as a number. -/
theorem pN_flag (t : Fin cfg0.N) (b : Fin 4) (k : Nat) (hk : k < 8) :
    pN (iblk m c 2 t) b k = (((a3 m c (ix2 (brow t b) ⟨k, hk⟩)).toNat : ℝ) : EReal) := by
  rw [← iblk2 m c t b ⟨k, hk⟩]
  unfold pN
  simp only [Nat.mod_eq_of_lt b.isLt, Nat.mod_eq_of_lt hk]

/-- A beam of the block has ended when its flag is set. -/
theorem eN_iff (t : Fin cfg0.N) (b : Fin 4) (k : Nat) (hk : k < 8) :
    eN (iblk m c 2 t) b k ↔ a3 m c (ix2 (brow t b) ⟨k, hk⟩) = 1#1 := by
  unfold eN
  rw [pN_flag m c t b k hk, bit_half]

/-- A beam's score of the block is the argument's. -/
theorem pN_eq (t : Fin cfg0.N) (b : Fin 4) (k : Nat) (hk : k < 8) : pN (iblk m c 1 t) b k = a1 m c (ix2 (brow t b) ⟨k, hk⟩) := by
  rw [← iblk1 m c t b ⟨k, hk⟩]
  unfold pN
  simp only [Nat.mod_eq_of_lt b.isLt, Nat.mod_eq_of_lt hk]

/-- A word's score of the block is the argument's. -/
theorem xN_eq (t : Fin cfg0.N) (b : Fin 4) (k v : Nat) (hk : k < 8) (hv : v < 100000) :
    xN (iblk m c 0 t) b k v = a0 m c (ix3 ⟨8 * (brow t b).val + k, by have := (brow t b).isLt; omega⟩ 0 ⟨v, hv⟩) := by
  unfold xN
  refine (iblk0 m c t _ _).trans ?_
  congr 1
  have h1 : 32 * t.val + (8 * b.val + k) % 32 = 8 * (brow t b).val + k := by
    show _ = 8 * (4 * t.val + b.val) + k
    omega
  simp only [h1, Nat.mod_eq_of_lt hv]

/-- The kernel's score of a candidate is the reference's. -/
theorem pS_eq (t : Fin cfg0.N) (b : Fin 4) (j : Nat) (hj : j < 800000) :
    pS (iblk m c 0 t) (iblk m c 1 t) (iblk m c 2 t) b j = qS (a0 m c) (a1 m c) (a3 m c) (brow t b) j := by
  have hk : j / 100000 < 8 := by omega
  have hv : j % 100000 < 100000 := by omega
  have hs : qS (a0 m c) (a1 m c) (a3 m c) (brow t b) j = a1 m c (ix2 (brow t b) ⟨j / 100000, hk⟩)
      + if a3 m c (ix2 (brow t b) ⟨j / 100000, hk⟩) = 1#1 then (if j % 100000 = 2 then 0 else ⊥)
        else a0 m c (ix3 ⟨8 * (brow t b).val + j / 100000, by have := (brow t b).isLt; omega⟩ 0 ⟨j % 100000, hv⟩) := by
    unfold qS
    simp only [Nat.mod_eq_of_lt hj]
    exact scoreV_apply (a0 m c) (a1 m c) (a3 m c) (brow t b) ⟨j, hj⟩
  rw [hs]
  have hjj : j = j / 100000 * 100000 + j % 100000 := by omega
  have hp := pN_eq m c t b (j / 100000) hk
  by_cases he : a3 m c (ix2 (brow t b) ⟨j / 100000, hk⟩) = 1#1
  · rw [if_pos he]
    have h := pS_ended (X1 := iblk m c 0 t) (X2 := iblk m c 1 t) ((eN_iff m c t b (j / 100000) hk).2 he) hv
    rw [← hjj, hp] at h
    rw [h]
    split
    · rw [add_zero]
    · rw [EReal.add_bot]
  · rw [if_neg he]
    have h := pS_going (X1 := iblk m c 0 t) (X2 := iblk m c 1 t) (fun q => he ((eN_iff m c t b (j / 100000) hk).1 q)) hv
    rw [← hjj, hp, xN_eq m c t b _ _ hk hv] at h
    rw [h, add_comm]

/-- What the claim asks of the scores. -/
structure UseA : Prop where
  x : ∀ i, ⊥ < a0 m c i
  lo : ∀ i, ⊥ < a1 m c i
  hi : ∀ i, a1 m c i < ⊤

/-- Usable arguments have usable blocks. -/
theorem UseA.block (h : UseA m c) (t : Fin cfg0.N) (b : Fin 4) : Usable (iblk m c 0 t) (iblk m c 1 t) b where
  x k v := by unfold xN; exact lt_of_lt_of_eq (h.x _) (iblk0 m c t _ _).symm
  lo k := by unfold pN; exact lt_of_lt_of_eq (h.lo _) (iblk1 m c t _ _).symm
  hi k := by unfold pN; exact lt_of_eq_of_lt (iblk1 m c t _ _) (h.hi _)

/-- A row of numbers with an axis of one before it. -/
theorem cast_row (Y : FVec Ideal S1x8 .f32) (l : Fin 8) : shapeCast S1x1x8 Y shapeCasts_S1x8_S1x1x8 (ix3 0 0 l) = Y (ix2 0 l) := by
  pointwise

/-- A row of words with an axis of one before it. -/
theorem cast_rowI (Y : IVec S1x8 32) (l : Fin 8) : shapeCast S1x1x8 Y shapeCasts_S1x8_S1x1x8 (ix3 0 0 l) = Y (ix2 0 l) := by
  pointwise

/-- What the kernel leaves of a batch row when its candidates are `n`. -/
structure RowRes (t : Fin cfg0.N) (b : Fin 4) (n : Nat → Nat) (hn : ∀ l : Fin 8, n l < 800000) : Prop where
  score : ∀ l : Fin 8, aft m c 4 t (ix3 b 0 l) = qS (a0 m c) (a1 m c) (a3 m c) (brow t b) (n l)
  word : ∀ l : Fin 8, aft m c 5 t (ix3 b 0 l) = wd (n l % 100000)
  beam : ∀ l : Fin 8, aft m c 6 t (ix3 b 0 l) = wd (n l / 100000)
  flag : ∀ l : Fin 8, aft m c 7 t (ix3 b 0 l) = if n l % 100000 = 2 then (1 : EReal)
    else (((a3 m c (ix2 (brow t b) ⟨n l / 100000, by have := hn l; omega⟩)).toNat : ℝ) : EReal)
  hist : ∀ (j : Fin 51) (l : Fin 8), aft m c 8 t (ix3 b j l) = if h : j.val < 50
    then a2 m c (ix3 ⟨j.val, h⟩ (brow t b) ⟨n l / 100000, by have := hn l; omega⟩) else wd (n l % 100000)

/-- Every batch row has its best eight, and the kernel leaves what they say. -/
theorem row_res (hu : UseA m c) (t : Fin cfg0.N) (b : Fin 4) : ∃ n : Nat → Nat, ∃ hb : Best (qS (a0 m c) (a1 m c) (a3 m c) (brow t b)) n,
    RowRes m c t b n (fun l => hb.lt l l.isLt) := by
  obtain ⟨n, hbest, hm, hf⟩ := eight c (st0_0 t) (hst0 t) (iblk m c 0 t) (st0_1 t) (st0_2 t) (hst1 t) (hst2 t) (iblk m c 1 t) (iblk m c 2 t)
    (pick4 (Memref.whole cc0_scratch0) (Memref.whole cc0_scratch1) (Memref.whole cc0_scratch2) (Memref.whole cc0_scratch3) b)
    (pick4 (Memref.whole cc0_scratch4) (Memref.whole cc0_scratch5) (Memref.whole cc0_scratch6) (Memref.whole cc0_scratch7) b) b b.isLt (hu.block m c t b)
  have hn : ∀ l : Fin 8, n l < 800000 := fun l => hbest.lt l l.isLt
  rw [← mvN_eq] at hm
  rw [← fvN_eq] at hf
  refine ⟨n, best_congr hbest fun j hj => pS_eq m c t b j hj, ?_, ?_, ?_, ?_, ?_⟩
  · intro l
    exact (read5 ..).trans ((cast_row _ l).trans ((hm l).trans (pS_eq m c t b (n l) (hn l))))
  · intro l
    exact (read6 ..).trans ((cast_rowI _ l).trans (vvec_lane _ (fun l => n l) hn hf l))
  · intro l
    exact (read7 ..).trans ((cast_rowI _ l).trans (bvec_lane _ (fun l => n l) hn hf l))
  · intro l
    refine (read8 ..).trans ((cast_row _ l).trans ((eg_lane _ (fun l => n l) hn hf _ l).trans ?_))
    split
    · rfl
    · exact (prS_apply ..).trans (pN_flag m c t b _ _)
  · intro j l
    refine (read9 ..).trans ?_
    split
    · exact (og_lane _ (fun l => n l) hn hf ..).trans (iblk3 ..)
    · exact (cast_rowI _ l).trans (vvec_lane _ (fun l => n l) hn hf l)

end Cert.Proof.KernelIdeal

end
-- ==== Proof.Final.lean ====
/-
  The kernel's results over the reals are the reference's: the five arrays the points leave, and the host's operations on them.
-/
module

public import proofs.«01_k».proof.Proof.Rows

@[expose] public section

set_option maxRecDepth 16384

noncomputable section

namespace Cert.Proof.KernelIdeal

open _root_.Cert.KernelIdeal _root_.Cert.KernelIdeal.Gen _root_.Cert.KernelIdeal.Facts

open Idealize.ShloMosaic Idealize.ShloMosaic.TcCoe Idealize.SL.Sem
open Cert.Proof.ReferenceIdeal (qS topV modV divV endedV outsV top_apply mod_top div_top ended_top outs_top)
open Cert.Proof.Beam (Best beats)

variable (m : (ℓ : Loc nD τ sig) → Buf (Elt Ideal) ℓ) (c : Dev nD)

/-- A batch row belongs to one point and one row of it only. -/
theorem brow_inj {t t' : Fin cfg0.N} {b b' : Fin 4} (h : brow t b = brow t' b') : t = t' ∧ b = b' := by
  have h' : 4 * t.val + b.val = 4 * t'.val + b'.val := congrArg Fin.val h
  exact ⟨Fin.ext (by omega), Fin.ext (by omega)⟩

/-- Every batch row belongs to a point. -/
theorem brow_surj (B : Fin 64) : ∃ (t : Fin cfg0.N) (b : Fin 4), brow t b = B :=
  ⟨⟨B.val / 4, lt_of_lt_of_eq (by omega : B.val / 4 < 16) N_0.symm⟩, ⟨B.val % 4, by omega⟩, Fin.ext (show 4 * (B.val / 4) + B.val % 4 = B.val by omega)⟩

/-- The best eight of every batch row, and what the kernel leaves of each. -/
theorem all_res (hu : UseA m c) : ∃ n : Fin 64 → Nat → Nat, ∃ hb : ∀ B, Best (qS (a0 m c) (a1 m c) (a3 m c) B) (n B),
    ∀ t b, RowRes m c t b (n (brow t b)) (fun l => (hb (brow t b)).lt l l.isLt) := by
  have h : ∀ B : Fin 64, ∃ n : Nat → Nat, ∃ hb : Best (qS (a0 m c) (a1 m c) (a3 m c) B) n,
      ∀ t b, brow t b = B → RowRes m c t b n (fun l => hb.lt l l.isLt) := by
    intro B
    obtain ⟨t, b, rfl⟩ := brow_surj B
    obtain ⟨n, hb, hr⟩ := row_res m c hu t b
    refine ⟨n, hb, fun t' b' e => ?_⟩
    obtain ⟨rfl, rfl⟩ := brow_inj e
    exact hr
  choose n hb hr using h
  exact ⟨n, hb, fun t b => hr (brow t b) t b rfl⟩

/-- The reference's best scores and places. -/
abbrev tp := topV (a0 m c) (a1 m c) (a3 m c)

/-- The five results of the reference, of the kernel's arguments. -/
abbrev rScore : FVec Ideal S64x8 .f32 := (tp m c).1
abbrev rWord : IVec S64x8 32 := modV (tp m c).2
abbrev rBeam : IVec S64x8 32 := divV (tp m c).2
abbrev rFlag : IVec S64x8 1 := endedV (a3 m c) (rWord m c) (rBeam m c)
abbrev rHist : IVec S51x64x8 32 := outsV (a2 m c) (rWord m c) (rBeam m c)

/-- What a point leaves, in the reference's results. -/
structure PointRes (t : Fin cfg0.N) (b : Fin 4) (l : Fin 8) : Prop where
  score : aft m c 4 t (ix3 b 0 l) = rScore m c (ix2 (brow t b) l)
  word : aft m c 5 t (ix3 b 0 l) = rWord m c (ix2 (brow t b) l)
  beam : aft m c 6 t (ix3 b 0 l) = rBeam m c (ix2 (brow t b) l)
  flag : aft m c 7 t (ix3 b 0 l) = (((rFlag m c (ix2 (brow t b) l)).toNat : ℝ) : EReal)
  hist : ∀ j : Fin 51, aft m c 8 t (ix3 b j l) = rHist m c (ix3 j (brow t b) l)

/-- Every point leaves the reference's results for its rows. -/
theorem point_res (hu : UseA m c) (t : Fin cfg0.N) (b : Fin 4) (l : Fin 8) : PointRes m c t b l := by
  obtain ⟨n, hb, hr⟩ := all_res m c hu
  have h := hr t b
  refine ⟨(h.score l).trans (top_apply _ _ _ n hb _ l).1.symm, (h.word l).trans (mod_top _ _ _ n hb _ l).symm,
    (h.beam l).trans (div_top _ _ _ n hb _ l).symm, (h.flag l).trans ?_, fun j => (h.hist j l).trans (outs_top _ _ _ _ n hb _ _ l).symm⟩
  rw [show rFlag m c (ix2 (brow t b) l) = _ from ended_top _ _ _ n hb (brow t b) l]
  split
  · simp
  · rfl

/-- An output array is a function its blocks agree with, when the blocks fill it. -/
theorem arr_of (w : Fin cfg0.W) (G : Buf (Elt Ideal) ((cfg0.win w).arr.view.loc (c.tc : Thread nD τ)))
    (hf : ∀ t, (cfg0.win w).flush t = true) (hr : ∀ t, (dats m 0 c).flushed w t = ((cfg0.win w).blk t).view.read (Elt Ideal) G)
    (hc : ∀ i : ((cfg0.win w).arr.view.loc (c.tc : Thread nD τ)).ty.Idx, ∃ (t : Fin cfg0.N) (y : _), ((cfg0.win w).blk t).view.emb y = i) : (dats m 0 c).arrAt w cfg0.N = G :=
  (dats m 0 c).arrAt_eq_of_cover w G (fun t _ => hr t) fun i => by
    obtain ⟨t, y, rfl⟩ := hc i
    exact ⟨t, hf t, View.emb_mem_set _ y⟩

section
variable {k : Nat} {α : Type} (e : Fin cfg0.N → (⟨3, ![4, k, 8]⟩ : Shape).Idx → (⟨3, ![64, k, 8]⟩ : Shape).Idx)
  (he : ∀ t (b : Fin 4) (j : Fin k) (l : Fin 8), e t (ix3 b j l) = ix3 (brow t b) j l)
include he

/-- Blocks of four batch rows fill the sixty-four. -/
theorem rows_fill (i : (⟨3, ![64, k, 8]⟩ : Shape).Idx) : ∃ t y, e t y = i := by
  obtain ⟨t, b, hB⟩ := brow_surj (i 0)
  refine ⟨t, ix3 b (i 1) (i 2), (he t b (i 1) (i 2)).trans ?_⟩
  rw [hB]
  funext a
  fin_cases a <;> rfl

/-- Such a block, row by row. -/
theorem rows_read (A : (⟨3, ![4, k, 8]⟩ : Shape).Idx → α) (G : (⟨3, ![64, k, 8]⟩ : Shape).Idx → α) (t : Fin cfg0.N)
    (h : ∀ (b : Fin 4) (j : Fin k) (l : Fin 8), A (ix3 b j l) = G (ix3 (brow t b) j l)) : A = fun y => G (e t y) := by
  funext y
  have hy : y = ix3 (y 0) (y 1) (y 2) := by
    funext a
    fin_cases a <;> rfl
  rw [hy]
  exact (h (y 0) (y 1) (y 2)).trans (congrArg G (he t (y 0) (y 1) (y 2)).symm)

end

/-- The scores' output block of a point starts at batch row `4 t`. -/
theorem idx4 (t : Fin cfg0.N) : win0_4.index t 0 * win0_4.size 0 = 4 * t.val ∧ win0_4.index t 1 * win0_4.size 1 = 0 ∧ win0_4.index t 2 * win0_4.size 2 = 0 := by
  rcases fin_N0 t with rfl | rfl | rfl | rfl | rfl | rfl | rfl | rfl | rfl | rfl | rfl | rfl | rfl | rfl | rfl | rfl <;> decide +kernel

/-- The histories' output block starts at batch row `4 t`. -/
theorem idx8 (t : Fin cfg0.N) : win0_8.index t 0 * win0_8.size 0 = 4 * t.val ∧ win0_8.index t 1 * win0_8.size 1 = 0 ∧ win0_8.index t 2 * win0_8.size 2 = 0 := by
  rcases fin_N0 t with rfl | rfl | rfl | rfl | rfl | rfl | rfl | rfl | rfl | rfl | rfl | rfl | rfl | rfl | rfl | rfl <;> decide +kernel

/-- An entry of the scores' output block, in the whole array. -/
theorem emb4 (t : Fin cfg0.N) (b : Fin 4) (j : Fin 1) (l : Fin 8) : (win0_4.rect t).emb (ix3 b j l) = ix3 (brow t b) j l := by
  funext a
  fin_cases a
  · apply Fin.ext
    show win0_4.index t 0 * win0_4.size 0 + 1 * b.val = _
    rw [(idx4 t).1]
    show _ = 4 * t.val + b.val
    omega
  · exact Subsingleton.elim (α := Fin 1) _ _
  · apply Fin.ext
    show win0_4.index t 2 * win0_4.size 2 + 1 * l.val = _
    rw [(idx4 t).2.2]
    show _ = l.val
    omega

/-- The same of the words' block. -/
theorem emb5 (t : Fin cfg0.N) (b : Fin 4) (j : Fin 1) (l : Fin 8) : (win0_5.rect t).emb (ix3 b j l) = ix3 (brow t b) j l := emb4 t b j l
/-- The same of the beams' block. -/
theorem emb6 (t : Fin cfg0.N) (b : Fin 4) (j : Fin 1) (l : Fin 8) : (win0_6.rect t).emb (ix3 b j l) = ix3 (brow t b) j l := emb4 t b j l
/-- The same of the flags' block. -/
theorem emb7 (t : Fin cfg0.N) (b : Fin 4) (j : Fin 1) (l : Fin 8) : (win0_7.rect t).emb (ix3 b j l) = ix3 (brow t b) j l := emb4 t b j l

/-- An entry of the histories' output block, in the whole array. -/
theorem emb8 (t : Fin cfg0.N) (b : Fin 4) (j : Fin 51) (l : Fin 8) : (win0_8.rect t).emb (ix3 b j l) = ix3 (brow t b) j l := by
  funext a
  fin_cases a
  · apply Fin.ext
    show win0_8.index t 0 * win0_8.size 0 + 1 * b.val = _
    rw [(idx8 t).1]
    show _ = 4 * t.val + b.val
    omega
  · apply Fin.ext
    show win0_8.index t 1 * win0_8.size 1 + 1 * j.val = _
    rw [(idx8 t).2.1]
    show _ = j.val
    omega
  · apply Fin.ext
    show win0_8.index t 2 * win0_8.size 2 + 1 * l.val = _
    rw [(idx8 t).2.2]
    show _ = l.val
    omega

/-- There is one index below one. -/
theorem fin_one (j : Fin 1) : j = 0 := Subsingleton.elim _ _

/-- The five arrays the points leave. -/
abbrev G4 : FVec Ideal S64x1x8 .f32 := fun i => rScore m c (ix2 (i 0) (i 2))
abbrev G5 : IVec S64x1x8 32 := fun i => rWord m c (ix2 (i 0) (i 2))
abbrev G6 : IVec S64x1x8 32 := fun i => rBeam m c (ix2 (i 0) (i 2))
abbrev G7 : FVec Ideal S64x1x8 .f32 := fun i => (((rFlag m c (ix2 (i 0) (i 2))).toNat : ℝ) : EReal)
abbrev G8 : IVec S64x51x8 32 := fun i => rHist m c (ix3 (i 1) (i 0) (i 2))

/-- What a point writes back is what its body left. -/
theorem flushed_aft (w : Fin cfg0.W) (t : Fin cfg0.N) : (dats m 0 c).flushed w t = (cfg0.win w).cut (grid0.coords t) (aft m c w t) := rfl

/-- The scores' block is written back whole. -/
theorem cut4 (t : Fin cfg0.N) (A : S4x1x8.Idx → EReal) : (cfg0.win 4).cut (grid0.coords t) A = A := rfl
/-- The words' block is written back whole. -/
theorem cut5 (t : Fin cfg0.N) (A : S4x1x8.Idx → BitVec 32) : (cfg0.win 5).cut (grid0.coords t) A = A := rfl
/-- The beams' block is written back whole. -/
theorem cut6 (t : Fin cfg0.N) (A : S4x1x8.Idx → BitVec 32) : (cfg0.win 6).cut (grid0.coords t) A = A := rfl
/-- The flags' block is written back whole. -/
theorem cut7 (t : Fin cfg0.N) (A : S4x1x8.Idx → EReal) : (cfg0.win 7).cut (grid0.coords t) A = A := rfl
/-- The histories' block is written back whole. -/
theorem cut8 (t : Fin cfg0.N) (A : S4x51x8.Idx → BitVec 32) : (cfg0.win 8).cut (grid0.coords t) A = A := rfl

/-- A read of an array of scores through a block. -/
theorem blk4 (t : Fin cfg0.N) (G : S64x1x8.Idx → EReal) : ((cfg0.win 4).blk t).view.read (Elt Ideal) G = fun y => G ((win0_4.rect t).emb y) := rfl
/-- A read of an array of words through a block. -/
theorem blk5 (t : Fin cfg0.N) (G : S64x1x8.Idx → BitVec 32) : ((cfg0.win 5).blk t).view.read (Elt Ideal) G = fun y => G ((win0_5.rect t).emb y) := rfl
/-- A read of an array of beams through a block. -/
theorem blk6 (t : Fin cfg0.N) (G : S64x1x8.Idx → BitVec 32) : ((cfg0.win 6).blk t).view.read (Elt Ideal) G = fun y => G ((win0_6.rect t).emb y) := rfl
/-- A read of an array of flags through a block. -/
theorem blk7 (t : Fin cfg0.N) (G : S64x1x8.Idx → EReal) : ((cfg0.win 7).blk t).view.read (Elt Ideal) G = fun y => G ((win0_7.rect t).emb y) := rfl
/-- A read of an array of histories through a block. -/
theorem blk8 (t : Fin cfg0.N) (G : S64x51x8.Idx → BitVec 32) : ((cfg0.win 8).blk t).view.read (Elt Ideal) G = fun y => G ((win0_8.rect t).emb y) := rfl

/-- The array of scores ends at the reference's scores. -/
theorem arr4 (hu : UseA m c) : (dats m 0 c).arrAt 4 cfg0.N = G4 m c :=
  arr_of m c 4 (G4 m c) flush0_4 (fun t => (flushed_aft m c 4 t).trans <| (cut4 t _).trans <|
    (rows_read (k := 1) (fun t => (win0_4.rect t).emb) emb4 (aft m c 4 t) (G4 m c) t fun b j l => by
      rw [fin_one j]; exact (point_res m c hu t b l).score).trans (blk4 t _).symm) (rows_fill (k := 1) (fun t => (win0_4.rect t).emb) emb4)
/-- The array of words ends at the reference's words. -/
theorem arr5 (hu : UseA m c) : (dats m 0 c).arrAt 5 cfg0.N = G5 m c :=
  arr_of m c 5 (G5 m c) flush0_5 (fun t => (flushed_aft m c 5 t).trans <| (cut5 t _).trans <|
    (rows_read (k := 1) (fun t => (win0_5.rect t).emb) emb5 (aft m c 5 t) (G5 m c) t fun b j l => by
      rw [fin_one j]; exact (point_res m c hu t b l).word).trans (blk5 t _).symm) (rows_fill (k := 1) (fun t => (win0_5.rect t).emb) emb5)

/-- The array of beams ends at the reference's beams. -/
theorem arr6 (hu : UseA m c) : (dats m 0 c).arrAt 6 cfg0.N = G6 m c :=
  arr_of m c 6 (G6 m c) flush0_6 (fun t => (flushed_aft m c 6 t).trans <| (cut6 t _).trans <|
    (rows_read (k := 1) (fun t => (win0_6.rect t).emb) emb6 (aft m c 6 t) (G6 m c) t fun b j l => by
      rw [fin_one j]; exact (point_res m c hu t b l).beam).trans (blk6 t _).symm) (rows_fill (k := 1) (fun t => (win0_6.rect t).emb) emb6)

/-- The array of flags ends at the reference's flags, as numbers. -/
theorem arr7 (hu : UseA m c) : (dats m 0 c).arrAt 7 cfg0.N = G7 m c :=
  arr_of m c 7 (G7 m c) flush0_7 (fun t => (flushed_aft m c 7 t).trans <| (cut7 t _).trans <|
    (rows_read (k := 1) (fun t => (win0_7.rect t).emb) emb7 (aft m c 7 t) (G7 m c) t fun b j l => by
      rw [fin_one j]; exact (point_res m c hu t b l).flag).trans (blk7 t _).symm) (rows_fill (k := 1) (fun t => (win0_7.rect t).emb) emb7)

/-- The array of histories ends at the reference's histories, the batch row first. -/
theorem arr8 (hu : UseA m c) : (dats m 0 c).arrAt 8 cfg0.N = G8 m c :=
  arr_of m c 8 (G8 m c) flush0_8 (fun t => (flushed_aft m c 8 t).trans <| (cut8 t _).trans <|
    (rows_read (k := 51) (fun t => (win0_8.rect t).emb) emb8 (aft m c 8 t) (G8 m c) t fun b j l =>
      (point_res m c hu t b l).hist j).trans (blk8 t _).symm) (rows_fill (k := 51) (fun t => (win0_8.rect t).emb) emb8)

/-- The arrays at the region's end, with everything else as it was before. -/
abbrev VW : Valuation τ sig (Elt Ideal) := Pipeline.withArrays spec0 c (V0 m c) fun w => (dats m 0 c).arrAt w cfg0.N

/-- After the region the host finds each array as the points left it. -/
theorem VW_arr (w : Fin cfg0.W) : VW m c (Proc.devRef .tc (Pipeline.arrRef spec0 w)) = (dats m 0 c).arrAt w cfg0.N :=
  Pipeline.withArrays_arr spec0 launch0.win.arr_inj c _ _ w

/-- The host finds the scores. -/
theorem VW4 (hu : UseA m c) : VW m c main_v5_0 = G4 m c := (VW_arr m c 4).trans (arr4 m c hu)
/-- The host finds the words. -/
theorem VW5 (hu : UseA m c) : VW m c main_v5_1 = G5 m c := (VW_arr m c 5).trans (arr5 m c hu)
/-- The host finds the beams. -/
theorem VW6 (hu : UseA m c) : VW m c main_v5_2 = G6 m c := (VW_arr m c 6).trans (arr6 m c hu)
/-- The host finds the flags. -/
theorem VW7 (hu : UseA m c) : VW m c main_v5_3 = G7 m c := (VW_arr m c 7).trans (arr7 m c hu)
/-- The host finds the histories. -/
theorem VW8 (hu : UseA m c) : VW m c main_v5_4 = G8 m c := (VW_arr m c 8).trans (arr8 m c hu)

/-- The axis of one dropped from an array of numbers. -/
theorem cast_rows {φ : FTy} (Y : FVec Ideal S64x1x8 φ) (B : Fin 64) (l : Fin 8) : shapeCast S64x8 Y shapeCasts_S64x1x8_S64x8 (ix2 B l) = Y (ix3 B 0 l) := by
  pointwise

/-- The axis of one dropped from an array of words. -/
theorem cast_rowsI (Y : IVec S64x1x8 32) (B : Fin 64) (l : Fin 8) : shapeCast S64x8 Y shapeCasts_S64x1x8_S64x8 (ix2 B l) = Y (ix3 B 0 l) := by
  pointwise

/-- Two arrays of batch rows and lanes are equal when their entries are. -/
theorem ext2 {α : Type} {f g : S64x8.Idx → α} (h : ∀ (B : Fin 64) (l : Fin 8), f (ix2 B l) = g (ix2 B l)) : f = g := by
  funext i
  have hi : i = ix2 (i 0) (i 1) := by
    funext a
    fin_cases a <;> rfl
  rw [hi]
  exact h (i 0) (i 1)

/-- The kernel's second result is the reference's scores. -/
theorem at_v6 (hu : UseA m c) : Pipeline.afterTail₀ cfgs (dats m) 0 (V0 m) [hostOps1] c main_v6 = rScore m c := by
  have h : Pipeline.afterTail₀ cfgs (dats m) 0 (V0 m) [hostOps1] c main_v6 = shapeCast S64x8 (VW m c main_v5_0) shapeCasts_S64x1x8_S64x8 := by
    unfold Pipeline.afterTail₀
    simp only [hostOps1, List.flatten_cons, List.flatten_nil, List.append_nil, List.cons_append, List.nil_append]
    after_results_simp
    rfl
  rw [h, VW4 m c hu]
  exact ext2 fun B l => cast_rows (G4 m c) B l

/-- The kernel's fifth result is the reference's beams. -/
theorem at_v8 (hu : UseA m c) : Pipeline.afterTail₀ cfgs (dats m) 0 (V0 m) [hostOps1] c main_v8 = rBeam m c := by
  have h : Pipeline.afterTail₀ cfgs (dats m) 0 (V0 m) [hostOps1] c main_v8 = shapeCast S64x8 (VW m c main_v5_2) shapeCasts_S64x1x8_S64x8 := by
    unfold Pipeline.afterTail₀
    simp only [hostOps1, List.flatten_cons, List.flatten_nil, List.append_nil, List.cons_append, List.nil_append]
    after_results_simp
    rfl
  rw [h, VW6 m c hu]
  exact ext2 fun B l => cast_rowsI (G6 m c) B l

/-- The kernel's first result is the reference's words, in one column. -/
theorem at_v13 (hu : UseA m c) : Pipeline.afterTail₀ cfgs (dats m) 0 (V0 m) [hostOps1] c main_v13 = shapeCast S512x1 (rWord m c) shapeCasts_S64x8_S512x1 := by
  have h : Pipeline.afterTail₀ cfgs (dats m) 0 (V0 m) [hostOps1] c main_v13
      = shapeCast S512x1 (shapeCast S64x8 (VW m c main_v5_1) shapeCasts_S64x1x8_S64x8) shapeCasts_S64x8_S512x1 := by
    unfold Pipeline.afterTail₀
    simp only [hostOps1, List.flatten_cons, List.flatten_nil, List.append_nil, List.cons_append, List.nil_append]
    after_results_simp
    rfl
  rw [h, VW5 m c hu]
  exact congrArg (fun X => shapeCast S512x1 X shapeCasts_S64x8_S512x1) (ext2 fun B l => cast_rowsI (G5 m c) B l)

/-- The kernel's fourth result is the reference's flags: a flag as a number is above one half when it is set. -/
theorem at_v11 (hu : UseA m c) : Pipeline.afterTail₀ cfgs (dats m) 0 (V0 m) [hostOps1] c main_v11 = rFlag m c := by
  have h : Pipeline.afterTail₀ cfgs (dats m) 0 (V0 m) [hostOps1] c main_v11
      = cmpf .ogt (shapeCast S64x8 (VW m c main_v5_3) shapeCasts_S64x1x8_S64x8 : FVec Ideal S64x8 .f32)
        (broadcastInDim S64x8 ![] bcast_S_S64x8 (constant S_ .f32 0x3F000000#32)) := by
    unfold Pipeline.afterTail₀
    simp only [hostOps1, List.flatten_cons, List.flatten_nil, List.append_nil, List.cons_append, List.nil_append]
    after_results_simp
    rfl
  rw [h, VW7 m c hu]
  refine ext2 fun B l => ?_
  have e : cmpf .ogt (shapeCast S64x8 (G7 m c) shapeCasts_S64x1x8_S64x8 : FVec Ideal S64x8 .f32)
      (broadcastInDim S64x8 ![] bcast_S_S64x8 (constant S_ .f32 0x3F000000#32)) (ix2 B l)
      = BitVec.ofBool (decide (Ideal.ofBits .f32 1056964608#32 < shapeCast S64x8 (G7 m c) shapeCasts_S64x1x8_S64x8 (ix2 B l))) := rfl
  have g : shapeCast S64x8 (G7 m c) shapeCasts_S64x1x8_S64x8 (ix2 B l) = (((rFlag m c (ix2 B l)).toNat : ℝ) : EReal) := cast_rows (G7 m c) B l
  rw [e, g]
  generalize rFlag m c (ix2 B l) = x
  by_cases hx : x = 1#1
  · rw [decide_eq_true ((bit_half x).2 hx), hx]
    rfl
  · rw [decide_eq_false fun q => hx ((bit_half x).1 q)]
    revert x
    decide

/-- The kernel's third result is the reference's histories. -/
theorem at_v12 (hu : UseA m c) : Pipeline.afterTail₀ cfgs (dats m) 0 (V0 m) [hostOps1] c main_v12 = rHist m c := by
  have h : Pipeline.afterTail₀ cfgs (dats m) 0 (V0 m) [hostOps1] c main_v12
      = transpose S51x64x8 [1, 0, 2] (VW m c main_v5_4) transposes_S64x51x8_S51x64x8_1_0_2 := by
    unfold Pipeline.afterTail₀
    simp only [hostOps1, List.flatten_cons, List.flatten_nil, List.append_nil, List.cons_append, List.nil_append]
    after_results_simp
  rw [h, VW8 m c hu]
  have e : ∀ (Y : IVec S64x51x8 32) (j : Fin 51) (B : Fin 64) (l : Fin 8),
      transpose S51x64x8 [1, 0, 2] Y transposes_S64x51x8_S51x64x8_1_0_2 (ix3 j B l) = Y (ix3 B j l) := by
    intro Y j B l
    pointwise
  funext i
  have hi : i = ix3 (i 0) (i 1) (i 2) := by
    funext a
    fin_cases a <;> rfl
  rw [hi]
  exact e (G8 m c) (i 0) (i 1) (i 2)

/-- The run of the kernel over the reals, its results read: those of the reference. -/
theorem values (ρ : Dev nD → PrngReg) (hu : ∀ c, UseA m c) : θ_run defs (onTc (τ := τ) (main (F := Ideal))) ⟨m, fun _ => 0, ρ⟩ (fun r => ∀ c : Dev nD,
      r.2.mem ((c.tc : Thread nD τ).loc main_v13) = shapeCast S512x1 (rWord m c) shapeCasts_S64x8_S512x1
      ∧ r.2.mem ((c.tc : Thread nD τ).loc main_v6) = rScore m c
      ∧ r.2.mem ((c.tc : Thread nD τ).loc main_v12) = rHist m c
      ∧ r.2.mem ((c.tc : Thread nD τ).loc main_v11) = rFlag m c
      ∧ r.2.mem ((c.tc : Thread nD τ).loc main_v8) = rBeam m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v13 (Pipeline.mem_restRefs_of main_v13 (by decide) (by decide))).trans (at_v13 m c (hu c)),
      ((h.1 c).2 main_v6 (Pipeline.mem_restRefs_of main_v6 (by decide) (by decide))).trans (at_v6 m c (hu c)),
      ((h.1 c).2 main_v12 (Pipeline.mem_restRefs_of main_v12 (by decide) (by decide))).trans (at_v12 m c (hu c)),
      ((h.1 c).2 main_v11 (Pipeline.mem_restRefs_of main_v11 (by decide) (by decide))).trans (at_v11 m c (hu c)),
      ((h.1 c).2 main_v8 (Pipeline.mem_restRefs_of main_v8 (by decide) (by decide))).trans (at_v8 m c (hu c)),
      args_kept m h.1 c⟩) (run_main m ρ)

end Cert.Proof.KernelIdeal

end
-- ==== Proof.lean ====
/-
  The proof of `Cert.Claim`: the frames of the kernel (on bits and over the reals) and of the reference, that nothing
  was rewritten between the two kernels, and that over the reals the kernel's five results are the reference's wherever
  the scores are usable. The kernel's runs are in KernelRun.lean and KernelIdealRun.lean, on the body's runs of
  KernelBody.lean and KernelIdealBody.lean; its values are in Final.lean, the reference's in RefSide.lean and RefRead.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_usable_scores
public import proofs.«01_k».proof.Proof.KernelRun
public import proofs.«01_k».proof.Proof.KernelIdealRun
public import proofs.«01_k».proof.Proof.Final

@[expose] public section

noncomputable section

namespace Cert.Proof

open Idealize.ShloMosaic Idealize.SL.Sem

/-- The kernel on bits ends, leaves its arguments and every semaphore counter at zero. -/
theorem frame_k : Cert.quiescent_Kernel (hKernel := Cert.Kernel.Gen.facts) := fun m ρ _ => Cert.Proof.Kernel.frameClaim m ρ

/-- The kernel over the reals ends, leaves its arguments and every semaphore counter at zero. -/
theorem frame_ki : Cert.quiescent_KernelIdeal (hKernelIdeal := Cert.KernelIdeal.Gen.facts) := fun m ρ _ =>
  Cert.Proof.KernelIdeal.frameClaim m ρ

/-- The reference over the reals ends and leaves its arguments; it has no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The frames hold of every input, so of those with usable scores. -/
theorem frame_ki_pre : Cert.quiescent_KernelIdeal_pre_usable_scores (hKernelIdeal := Cert.KernelIdeal.Gen.facts)
    (hPre_usable_scores := Cert.Pre_usable_scores.Gen.facts) := fun m ρ _ => Cert.Proof.KernelIdeal.frameClaim m ρ

/-- The same of the reference. -/
theorem frame_ri_pre : Cert.quiescent_ReferenceIdeal_pre_usable_scores (hReferenceIdeal := Cert.ReferenceIdeal.Gen.facts)
    (hPre_usable_scores := Cert.Pre_usable_scores.Gen.facts) := fun m ρ _ => frame_ri m ρ trivial

/-- The lower and the upper bound of the precondition. -/
theorem low_bits : Ideal.ofBits .f32 0xFF800000#32 = ⊥ := by simp [Ideal.ofBits, Ideal.ieee]

/-- The upper bound is plus infinity. -/
theorem high_bits : Ideal.ofBits .f32 0x7F800000#32 = ⊤ := by simp [Ideal.ofBits, Ideal.ieee]

/-- A test whose bit is set holds. -/
theorem of_bit {p : Prop} [Decidable p] (h : BitVec.ofBool (decide p) = 1#1) : p := by
  by_contra hp
  rw [decide_eq_false hp] at h
  exact absurd h (by decide)

/-- The precondition says that no score is minus infinity and that the beams' scores are numbers. -/
theorem usable (m : (ℓ : Loc Cert.KernelIdeal.nD Cert.KernelIdeal.τ Cert.KernelIdeal.sig) → Buf (Elt Ideal) ℓ)
    (h : Cert.Pre_KernelIdeal_usable_scores (hPre_usable_scores := Cert.Pre_usable_scores.Gen.facts) m)
    (c : Dev Cert.KernelIdeal.nD) : Cert.Proof.KernelIdeal.UseA m c where
  x i := by
    have e : BitVec.ofBool (decide (Ideal.ofBits .f32 0xFF800000#32 < Cert.Proof.KernelIdeal.a0 m c i)) = 1#1 := congrFun (h c).1 i
    exact lt_of_eq_of_lt low_bits.symm (of_bit e)
  lo i := by
    have e : BitVec.ofBool (decide (Ideal.ofBits .f32 0xFF800000#32 < Cert.Proof.KernelIdeal.a1 m c i)) = 1#1 := congrFun (h c).2.1 i
    exact lt_of_eq_of_lt low_bits.symm (of_bit e)
  hi i := by
    have e : BitVec.ofBool (decide (Cert.Proof.KernelIdeal.a1 m c i < Ideal.ofBits .f32 0x7F800000#32)) = 1#1 := congrFun (h c).2.2 i
    exact lt_of_lt_of_eq (of_bit e) high_bits

open Cert.Proof.KernelIdeal in
/-- Over the reals, where the scores are usable, the kernel's five results are the reference's. -/
theorem equal_results : Cert.algebraic_KernelIdeal_ReferenceIdeal_pre_usable_scores (hKernelIdeal := Cert.KernelIdeal.Gen.facts)
    (hReferenceIdeal := Cert.ReferenceIdeal.Gen.facts) (hPre_usable_scores := Cert.Pre_usable_scores.Gen.facts) := by
  intro m g m' g' hpre hm
  refine ⟨fun c => shapeCast _ (rWord m c) Cert.ReferenceIdeal.Gen.facts.shapeCasts_S64x8_S512x1, fun c => rScore m c, fun c => rHist m c,
    fun c => rFlag m c, fun c => rBeam m c, Cert.Proof.KernelIdeal.values m g (usable m hpre), ?_⟩
  refine (θ_run Cert.ReferenceIdeal.defs _ _).mono (fun r h c => ?_) (Cert.ReferenceIdeal.Value.run (F := Ideal) m' g')
  obtain ⟨h0, h1, h2, h3⟩ := hm c
  obtain ⟨k0, k1, k2, k3, k4, k5⟩ := h c
  refine ⟨k0.trans ?_, k1.trans ?_, k2.trans ?_, k3.trans ?_, k4.trans ?_, k5⟩
  · rw [Cert.Proof.ReferenceIdeal.res23, h0, h1, h3]
    rfl
  · show (Cert.Proof.ReferenceIdeal.topV (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))).1 = _
    rw [h0, h1, h3]
  · rw [Cert.Proof.ReferenceIdeal.res19, h0, h1, h2, h3]
  · rw [Cert.Proof.ReferenceIdeal.res22, h0, h1, h3]
  · rw [Cert.Proof.ReferenceIdeal.res13, h0, h1, h3]

/-- Everything claimed. -/
theorem claim : Cert.Claim := ⟨Cert.Kernel.Gen.facts, Cert.KernelIdeal.Gen.facts, Cert.ReferenceIdeal.Gen.facts, Cert.Pre_usable_scores.Gen.facts,
  frame_k, frame_ki, frame_ki_pre, frame_ri, frame_ri_pre, trivial, equal_results⟩

end Cert.Proof

end
